-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_fit_KernelIdeal [hPre_experts_fit_KernelIdeal : Cert.Pre_experts_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_experts_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_experts_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_fit_ReferenceIdeal [hPre_experts_fit_ReferenceIdeal : Cert.Pre_experts_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_experts_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_fit_KernelIdeal [hKernelIdeal : Cert.KernelIdeal.Facts] [hPre_experts_fit_KernelIdeal : Cert.Pre_experts_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_fit_ReferenceIdeal [hReferenceIdeal : Cert.ReferenceIdeal.Facts] [hPre_experts_fit_ReferenceIdeal : Cert.Pre_experts_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_fit_KernelIdeal [hKernelIdeal : Cert.KernelIdeal.Facts] [hReferenceIdeal : Cert.ReferenceIdeal.Facts] [hPre_experts_fit_KernelIdeal : Cert.Pre_experts_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_fit_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 512, 1024]⟩ ⟨3, ![16, 512, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 1024, 512]⟩ ⟨3, ![16, 1024, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v192)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v192) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_fit_KernelIdeal : Cert.Pre_experts_fit_KernelIdeal.Facts) (hPre_experts_fit_ReferenceIdeal : Cert.Pre_experts_fit_ReferenceIdeal.Facts),
    quiescent_Kernel (hKernel := hKernel)
    ∧ quiescent_KernelIdeal (hKernelIdeal := hKernelIdeal)
    ∧ quiescent_KernelIdeal_pre_experts_fit_KernelIdeal (hKernelIdeal := hKernelIdeal) (hPre_experts_fit_KernelIdeal := hPre_experts_fit_KernelIdeal)
    ∧ quiescent_ReferenceIdeal (hReferenceIdeal := hReferenceIdeal)
    ∧ quiescent_ReferenceIdeal_pre_experts_fit_ReferenceIdeal (hReferenceIdeal := hReferenceIdeal) (hPre_experts_fit_ReferenceIdeal := hPre_experts_fit_ReferenceIdeal)
    ∧ preserves_Kernel_KernelIdeal
    ∧ algebraic_KernelIdeal_ReferenceIdeal_pre_experts_fit_KernelIdeal (hKernelIdeal := hKernelIdeal) (hReferenceIdeal := hReferenceIdeal) (hPre_experts_fit_KernelIdeal := hPre_experts_fit_KernelIdeal)
-- ==== Pre_experts_fit_KernelIdeal.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S_ : Shape := ⟨0, ![]⟩
abbrev S1x512 : Shape := ⟨2, ![1, 512]⟩
abbrev S16x512 : Shape := ⟨2, ![16, 512]⟩
abbrev S16 : Shape := ⟨1, ![16]⟩

class Facts : Prop where
  bcast_S_S512 : S_.BroadcastsInDim S512 (![] : Fin 0 → Fin S512.rank)
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  natLt_1_32 : 1 < 32
  reducesTo_S16x512_S16_d1 : S16x512.ReducesTo [1] S16
  h_S_ : 0 < S_.numel
  bcast_S_S16 : S_.BroadcastsInDim S16 (![] : Fin 0 → Fin S16.rank)

variable [Facts]

def fn {F : FTy → Type} [FloatOps F] (main_arg0 : FVec F S512x512 .f32) (main_arg1 : IVec S512 32) (main_arg2 : FVec F S2x512x1024 .f32) (main_arg3 : FVec F S2x1024x512 .f32) : IVec S512 1 × IVec S16 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 16#32
  let main_v2 : IVec S512 32 := broadcastInDim S512 ![] bcast_S_S512 main_c_0
  let main_v3 : IVec S512 1 := cmpi .slt main_arg1 main_v2
  let main_v4 : IVec S512 1 := andi main_v1 main_v3
  let main_v5 : IVec S1x512 32 := broadcastInDim S1x512 ![1] bcast_S512_S1x512_1 main_arg1
  let main_v6 : IVec S16x512 32 := iotaInDim S16x512 32 0
  let main_v7 : IVec S16x512 32 := broadcastInDim S16x512 ![0, 1] bcast_S1x512_S16x512_0_1 main_v5
  let main_v8 : IVec S16x512 1 := cmpi .eq main_v7 main_v6
  let main_v9 : IVec S16x512 32 := (extui 32 · natLt_1_32) main_v8
  let main_c_1 : IVec S_ 32 := constantI S_ 32 0#32
  let main_v10 : IVec S16 32 := (fun x v => Host.reduce IntOp.addi x v reducesTo_S16x512_S16_d1 h_S_) main_v9 main_c_1
  let main_c_2 : IVec S_ 32 := constantI S_ 32 48#32
  let main_v11 : IVec S16 32 := broadcastInDim S16 ![] bcast_S_S16 main_c_2
  let main_v12 : IVec S16 1 := cmpi .sle main_v10 main_v11
  (main_v4, main_v12)
-- ==== Pre_experts_fit_ReferenceIdeal.lean ====
abbrev S4096x512 : Shape := ⟨2, ![4096, 512]⟩
abbrev S4096 : Shape := ⟨1, ![4096]⟩
abbrev S16x512x1024 : Shape := ⟨3, ![16, 512, 1024]⟩
abbrev S16x1024x512 : Shape := ⟨3, ![16, 1024, 512]⟩
abbrev S_ : Shape := ⟨0, ![]⟩
abbrev S1x4096 : Shape := ⟨2, ![1, 4096]⟩
abbrev S16x4096 : Shape := ⟨2, ![16, 4096]⟩
abbrev S16 : Shape := ⟨1, ![16]⟩

class Facts : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S16x4096_0_1 : S1x4096.BroadcastsInDim S16x4096 (![0, 1] : Fin 2 → Fin S16x4096.rank)
  natLt_1_32 : 1 < 32
  reducesTo_S16x4096_S16_d1 : S16x4096.ReducesTo [1] S16
  h_S_ : 0 < S_.numel
  bcast_S_S16 : S_.BroadcastsInDim S16 (![] : Fin 0 → Fin S16.rank)

variable [Facts]

def fn {F : FTy → Type} [FloatOps F] (main_arg0 : FVec F S4096x512 .f32) (main_arg1 : IVec S4096 32) (main_arg2 : FVec F S16x512x1024 .f32) (main_arg3 : FVec F S16x1024x512 .f32) : IVec S4096 1 × IVec S16 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 16#32
  let main_v2 : IVec S4096 32 := broadcastInDim S4096 ![] bcast_S_S4096 main_c_0
  let main_v3 : IVec S4096 1 := cmpi .slt main_arg1 main_v2
  let main_v4 : IVec S4096 1 := andi main_v1 main_v3
  let main_v5 : IVec S1x4096 32 := broadcastInDim S1x4096 ![1] bcast_S4096_S1x4096_1 main_arg1
  let main_v6 : IVec S16x4096 32 := iotaInDim S16x4096 32 0
  let main_v7 : IVec S16x4096 32 := broadcastInDim S16x4096 ![0, 1] bcast_S1x4096_S16x4096_0_1 main_v5
  let main_v8 : IVec S16x4096 1 := cmpi .eq main_v7 main_v6
  let main_v9 : IVec S16x4096 32 := (extui 32 · natLt_1_32) main_v8
  let main_c_1 : IVec S_ 32 := constantI S_ 32 0#32
  let main_v10 : IVec S16 32 := (fun x v => Host.reduce IntOp.addi x v reducesTo_S16x4096_S16_d1 h_S_) main_v9 main_c_1
  let main_c_2 : IVec S_ 32 := constantI S_ 32 48#32
  let main_v11 : IVec S16 32 := broadcastInDim S16 ![] bcast_S_S16 main_c_2
  let main_v12 : IVec S16 1 := cmpi .sle main_v10 main_v11
  (main_v4, main_v12)
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S8x2x48x512 : Shape := ⟨4, ![8, 2, 48, 512]⟩
abbrev S8 : Shape := ⟨1, ![8]⟩
abbrev S_ : Shape := ⟨0, ![]⟩
abbrev S1x512 : Shape := ⟨2, ![1, 512]⟩
abbrev S16x512 : Shape := ⟨2, ![16, 512]⟩
abbrev S768x512 : Shape := ⟨2, ![768, 512]⟩
abbrev S1 : Shape := ⟨1, ![1]⟩
abbrev S1x2x48x512 : Shape := ⟨4, ![1, 2, 48, 512]⟩
abbrev S2x48x512 : Shape := ⟨3, ![2, 48, 512]⟩
abbrev S1x1x48x512 : Shape := ⟨4, ![1, 1, 48, 512]⟩
abbrev S1x48x512 : Shape := ⟨3, ![1, 48, 512]⟩
abbrev S48x512 : Shape := ⟨2, ![48, 512]⟩
abbrev S1x512x1024 : Shape := ⟨3, ![1, 512, 1024]⟩
abbrev S512x1024 : Shape := ⟨2, ![512, 1024]⟩
abbrev S48x1024 : Shape := ⟨2, ![48, 1024]⟩
abbrev S1x1024x512 : Shape := ⟨3, ![1, 1024, 512]⟩
abbrev S1024x512 : Shape := ⟨2, ![1024, 512]⟩
abbrev S2x2x48x512 : Shape := ⟨4, ![2, 2, 48, 512]⟩
abbrev S2x1x48x512 : Shape := ⟨4, ![2, 1, 48, 512]⟩
abbrev S96x512 : Shape := ⟨2, ![96, 512]⟩
abbrev S96x1024 : Shape := ⟨2, ![96, 1024]⟩
abbrev S3x2x48x512 : Shape := ⟨4, ![3, 2, 48, 512]⟩
abbrev S3x1x48x512 : Shape := ⟨4, ![3, 1, 48, 512]⟩
abbrev S3x48x512 : Shape := ⟨3, ![3, 48, 512]⟩
abbrev S144x512 : Shape := ⟨2, ![144, 512]⟩
abbrev S144x1024 : Shape := ⟨2, ![144, 1024]⟩
abbrev S192x512 : Shape := ⟨2, ![192, 512]⟩
abbrev S288x512 : Shape := ⟨2, ![288, 512]⟩

abbrev nBuf : Space → Nat
  | .hbm => 5
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S2x512x1024, .f32⟩
  | .hbm, ⟨3, _⟩ => ⟨S2x1024x512, .f32⟩
  | .hbm, ⟨4, _⟩ => ⟨S512x512, .f32⟩
  | .local _ .vmem, ⟨0, _⟩ => ⟨S512x512, .f32⟩
  | .local _ .vmem, ⟨1, _⟩ => ⟨S512, .i32⟩
  | .local _ .vmem, ⟨2, _⟩ => ⟨S2x512x1024, .f32⟩
  | .local _ .vmem, ⟨3, _⟩ => ⟨S2x1024x512, .f32⟩
  | .local _ .vmem, ⟨4, _⟩ => ⟨S512x512, .f32⟩
  | .local _ .vmem, ⟨5, _⟩ => ⟨S8x2x48x512, .bf16⟩
  | .local _ .vmem, ⟨6, _⟩ => ⟨S8x2x48x512, .bf16⟩
  | .local _ .vmem, ⟨7, _⟩ => ⟨S8x2x48x512, .bf16⟩
  | .local _ .vmem, ⟨8, _⟩ => ⟨S8x2x48x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 2 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_77 : BitVec 32 := 1#32
  let v145 : BitVec 32 := Scalar.addi v2 c1_i32_77
  let c8_i32_78 : BitVec 32 := 8#32
  let c0_i32_79 : BitVec 32 := 0#32
  let v146 : BitVec 1 := Scalar.cmpi .eq c8_i32_78 c0_i32_79
  let c1_i32_80 : BitVec 32 := 1#32
  let v147 : BitVec 32 := Scalar.select v146 c1_i32_80 c8_i32_78
  let v148 : BitVec 32 := Scalar.remsi v145 v147
  let c0_i32_82 : BitVec 32 := 0#32
  let v150 : BitVec 1 := Scalar.cmpi .slt v148 c0_i32_82
  let c0_i32_83 : BitVec 32 := 0#32
  let v151 : BitVec 1 := Scalar.cmpi .slt v147 c0_i32_83
  let v152 : BitVec 1 := Scalar.xori v150 v151
  let c0_i32_81 : BitVec 32 := 0#32
  let v149 : BitVec 1 := Scalar.cmpi .ne v148 c0_i32_81
  let v153 : BitVec 1 := Scalar.andi v152 v149
  let v154 : BitVec 32 := Scalar.addi v148 v147
  let v155 : BitVec 32 := Scalar.select v153 v154 v148
  let c1_i32_88 : BitVec 32 := 1#32
  let v156 : BitVec 32 := Scalar.muli v155 c1_i32_88
  let v157 : BitVec 32 := Scalar.addi c0_i32_89 v156
  v157.toNat
def k0_dev9 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_96 : BitVec 32 := 2#32
  let v166 : BitVec 32 := Scalar.addi v2 c2_i32_96
  let c8_i32_97 : BitVec 32 := 8#32
  let c0_i32_98 : BitVec 32 := 0#32
  let v167 : BitVec 1 := Scalar.cmpi .eq c8_i32_97 c0_i32_98
  let c1_i32_99 : BitVec 32 := 1#32
  let v168 : BitVec 32 := Scalar.select v167 c1_i32_99 c8_i32_97
  let v169 : BitVec 32 := Scalar.remsi v166 v168
  let c0_i32_101 : BitVec 32 := 0#32
  let v171 : BitVec 1 := Scalar.cmpi .slt v169 c0_i32_101
  let c0_i32_102 : BitVec 32 := 0#32
  let v172 : BitVec 1 := Scalar.cmpi .slt v168 c0_i32_102
  let v173 : BitVec 1 := Scalar.xori v171 v172
  let c0_i32_100 : BitVec 32 := 0#32
  let v170 : BitVec 1 := Scalar.cmpi .ne v169 c0_i32_100
  let v174 : BitVec 1 := Scalar.andi v173 v170
  let v175 : BitVec 32 := Scalar.addi v169 v168
  let v176 : BitVec 32 := Scalar.select v174 v175 v169
  let c1_i32_107 : BitVec 32 := 1#32
  let v177 : BitVec 32 := Scalar.muli v176 c1_i32_107
  let v178 : BitVec 32 := Scalar.addi c0_i32_108 v177
  v178.toNat
def k0_dev10 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_115 : BitVec 32 := 3#32
  let v187 : BitVec 32 := Scalar.addi v2 c3_i32_115
  let c8_i32_116 : BitVec 32 := 8#32
  let c0_i32_117 : BitVec 32 := 0#32
  let v188 : BitVec 1 := Scalar.cmpi .eq c8_i32_116 c0_i32_117
  let c1_i32_118 : BitVec 32 := 1#32
  let v189 : BitVec 32 := Scalar.select v188 c1_i32_118 c8_i32_116
  let v190 : BitVec 32 := Scalar.remsi v187 v189
  let c0_i32_120 : BitVec 32 := 0#32
  let v192 : BitVec 1 := Scalar.cmpi .slt v190 c0_i32_120
  let c0_i32_121 : BitVec 32 := 0#32
  let v193 : BitVec 1 := Scalar.cmpi .slt v189 c0_i32_121
  let v194 : BitVec 1 := Scalar.xori v192 v193
  let c0_i32_119 : BitVec 32 := 0#32
  let v191 : BitVec 1 := Scalar.cmpi .ne v190 c0_i32_119
  let v195 : BitVec 1 := Scalar.andi v194 v191
  let v196 : BitVec 32 := Scalar.addi v190 v189
  let v197 : BitVec 32 := Scalar.select v195 v196 v190
  let c1_i32_126 : BitVec 32 := 1#32
  let v198 : BitVec 32 := Scalar.muli v197 c1_i32_126
  let v199 : BitVec 32 := Scalar.addi c0_i32_127 v198
  v199.toNat
def k0_dev11 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_134 : BitVec 32 := 4#32
  let v208 : BitVec 32 := Scalar.addi v2 c4_i32_134
  let c8_i32_135 : BitVec 32 := 8#32
  let c0_i32_136 : BitVec 32 := 0#32
  let v209 : BitVec 1 := Scalar.cmpi .eq c8_i32_135 c0_i32_136
  let c1_i32_137 : BitVec 32 := 1#32
  let v210 : BitVec 32 := Scalar.select v209 c1_i32_137 c8_i32_135
  let v211 : BitVec 32 := Scalar.remsi v208 v210
  let c0_i32_139 : BitVec 32 := 0#32
  let v213 : BitVec 1 := Scalar.cmpi .slt v211 c0_i32_139
  let c0_i32_140 : BitVec 32 := 0#32
  let v214 : BitVec 1 := Scalar.cmpi .slt v210 c0_i32_140
  let v215 : BitVec 1 := Scalar.xori v213 v214
  let c0_i32_138 : BitVec 32 := 0#32
  let v212 : BitVec 1 := Scalar.cmpi .ne v211 c0_i32_138
  let v216 : BitVec 1 := Scalar.andi v215 v212
  let v217 : BitVec 32 := Scalar.addi v211 v210
  let v218 : BitVec 32 := Scalar.select v216 v217 v211
  let c1_i32_145 : BitVec 32 := 1#32
  let v219 : BitVec 32 := Scalar.muli v218 c1_i32_145
  let v220 : BitVec 32 := Scalar.addi c0_i32_146 v219
  v220.toNat
def k0_dev12 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_153 : BitVec 32 := 5#32
  let v229 : BitVec 32 := Scalar.addi v2 c5_i32_153
  let c8_i32_154 : BitVec 32 := 8#32
  let c0_i32_155 : BitVec 32 := 0#32
  let v230 : BitVec 1 := Scalar.cmpi .eq c8_i32_154 c0_i32_155
  let c1_i32_156 : BitVec 32 := 1#32
  let v231 : BitVec 32 := Scalar.select v230 c1_i32_156 c8_i32_154
  let v232 : BitVec 32 := Scalar.remsi v229 v231
  let c0_i32_158 : BitVec 32 := 0#32
  let v234 : BitVec 1 := Scalar.cmpi .slt v232 c0_i32_158
  let c0_i32_159 : BitVec 32 := 0#32
  let v235 : BitVec 1 := Scalar.cmpi .slt v231 c0_i32_159
  let v236 : BitVec 1 := Scalar.xori v234 v235
  let c0_i32_157 : BitVec 32 := 0#32
  let v233 : BitVec 1 := Scalar.cmpi .ne v232 c0_i32_157
  let v237 : BitVec 1 := Scalar.andi v236 v233
  let v238 : BitVec 32 := Scalar.addi v232 v231
  let v239 : BitVec 32 := Scalar.select v237 v238 v232
  let c1_i32_164 : BitVec 32 := 1#32
  let v240 : BitVec 32 := Scalar.muli v239 c1_i32_164
  let v241 : BitVec 32 := Scalar.addi c0_i32_165 v240
  v241.toNat
def k0_dev13 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_172 : BitVec 32 := 6#32
  let v250 : BitVec 32 := Scalar.addi v2 c6_i32_172
  let c8_i32_173 : BitVec 32 := 8#32
  let c0_i32_174 : BitVec 32 := 0#32
  let v251 : BitVec 1 := Scalar.cmpi .eq c8_i32_173 c0_i32_174
  let c1_i32_175 : BitVec 32 := 1#32
  let v252 : BitVec 32 := Scalar.select v251 c1_i32_175 c8_i32_173
  let v253 : BitVec 32 := Scalar.remsi v250 v252
  let c0_i32_177 : BitVec 32 := 0#32
  let v255 : BitVec 1 := Scalar.cmpi .slt v253 c0_i32_177
  let c0_i32_178 : BitVec 32 := 0#32
  let v256 : BitVec 1 := Scalar.cmpi .slt v252 c0_i32_178
  let v257 : BitVec 1 := Scalar.xori v255 v256
  let c0_i32_176 : BitVec 32 := 0#32
  let v254 : BitVec 1 := Scalar.cmpi .ne v253 c0_i32_176
  let v258 : BitVec 1 := Scalar.andi v257 v254
  let v259 : BitVec 32 := Scalar.addi v253 v252
  let v260 : BitVec 32 := Scalar.select v258 v259 v253
  let c1_i32_183 : BitVec 32 := 1#32
  let v261 : BitVec 32 := Scalar.muli v260 c1_i32_183
  let v262 : BitVec 32 := Scalar.addi c0_i32_184 v261
  v262.toNat
def k0_dev14 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_191 : BitVec 32 := 7#32
  let v271 : BitVec 32 := Scalar.addi v2 c7_i32_191
  let c8_i32_192 : BitVec 32 := 8#32
  let c0_i32_193 : BitVec 32 := 0#32
  let v272 : BitVec 1 := Scalar.cmpi .eq c8_i32_192 c0_i32_193
  let c1_i32_194 : BitVec 32 := 1#32
  let v273 : BitVec 32 := Scalar.select v272 c1_i32_194 c8_i32_192
  let v274 : BitVec 32 := Scalar.remsi v271 v273
  let c0_i32_196 : BitVec 32 := 0#32
  let v276 : BitVec 1 := Scalar.cmpi .slt v274 c0_i32_196
  let c0_i32_197 : BitVec 32 := 0#32
  let v277 : BitVec 1 := Scalar.cmpi .slt v273 c0_i32_197
  let v278 : BitVec 1 := Scalar.xori v276 v277
  let c0_i32_195 : BitVec 32 := 0#32
  let v275 : BitVec 1 := Scalar.cmpi .ne v274 c0_i32_195
  let v279 : BitVec 1 := Scalar.andi v278 v275
  let v280 : BitVec 32 := Scalar.addi v274 v273
  let v281 : BitVec 32 := Scalar.select v279 v280 v274
  let c1_i32_202 : BitVec 32 := 1#32
  let v282 : BitVec 32 := Scalar.muli v281 c1_i32_202
  let v283 : BitVec 32 := Scalar.addi c0_i32_203 v282
  v283.toNat
def k0_dev15 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_309 : BitVec 32 := 1#32
  let v388 : BitVec 32 := Scalar.subi v2 c1_i32_309
  let c8_i32_310 : BitVec 32 := 8#32
  let c0_i32_311 : BitVec 32 := 0#32
  let v389 : BitVec 1 := Scalar.cmpi .eq c8_i32_310 c0_i32_311
  let c1_i32_312 : BitVec 32 := 1#32
  let v390 : BitVec 32 := Scalar.select v389 c1_i32_312 c8_i32_310
  let v391 : BitVec 32 := Scalar.remsi v388 v390
  let c0_i32_314 : BitVec 32 := 0#32
  let v393 : BitVec 1 := Scalar.cmpi .slt v391 c0_i32_314
  let c0_i32_315 : BitVec 32 := 0#32
  let v394 : BitVec 1 := Scalar.cmpi .slt v390 c0_i32_315
  let v395 : BitVec 1 := Scalar.xori v393 v394
  let c0_i32_313 : BitVec 32 := 0#32
  let v392 : BitVec 1 := Scalar.cmpi .ne v391 c0_i32_313
  let v396 : BitVec 1 := Scalar.andi v395 v392
  let v397 : BitVec 32 := Scalar.addi v391 v390
  let v398 : BitVec 32 := Scalar.select v396 v397 v391
  let c1_i32_320 : BitVec 32 := 1#32
  let v399 : BitVec 32 := Scalar.muli v398 c1_i32_320
  let v400 : BitVec 32 := Scalar.addi c0_i32_321 v399
  v400.toNat
def k0_dev16 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_328 : BitVec 32 := 2#32
  let v409 : BitVec 32 := Scalar.subi v2 c2_i32_328
  let c8_i32_329 : BitVec 32 := 8#32
  let c0_i32_330 : BitVec 32 := 0#32
  let v410 : BitVec 1 := Scalar.cmpi .eq c8_i32_329 c0_i32_330
  let c1_i32_331 : BitVec 32 := 1#32
  let v411 : BitVec 32 := Scalar.select v410 c1_i32_331 c8_i32_329
  let v412 : BitVec 32 := Scalar.remsi v409 v411
  let c0_i32_333 : BitVec 32 := 0#32
  let v414 : BitVec 1 := Scalar.cmpi .slt v412 c0_i32_333
  let c0_i32_334 : BitVec 32 := 0#32
  let v415 : BitVec 1 := Scalar.cmpi .slt v411 c0_i32_334
  let v416 : BitVec 1 := Scalar.xori v414 v415
  let c0_i32_332 : BitVec 32 := 0#32
  let v413 : BitVec 1 := Scalar.cmpi .ne v412 c0_i32_332
  let v417 : BitVec 1 := Scalar.andi v416 v413
  let v418 : BitVec 32 := Scalar.addi v412 v411
  let v419 : BitVec 32 := Scalar.select v417 v418 v412
  let c1_i32_339 : BitVec 32 := 1#32
  let v420 : BitVec 32 := Scalar.muli v419 c1_i32_339
  let v421 : BitVec 32 := Scalar.addi c0_i32_340 v420
  v421.toNat
def k0_dev17 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_400 : BitVec 32 := 3#32
  let v481 : BitVec 32 := Scalar.subi v2 c3_i32_400
  let c8_i32_401 : BitVec 32 := 8#32
  let c0_i32_402 : BitVec 32 := 0#32
  let v482 : BitVec 1 := Scalar.cmpi .eq c8_i32_401 c0_i32_402
  let c1_i32_403 : BitVec 32 := 1#32
  let v483 : BitVec 32 := Scalar.select v482 c1_i32_403 c8_i32_401
  let v484 : BitVec 32 := Scalar.remsi v481 v483
  let c0_i32_405 : BitVec 32 := 0#32
  let v486 : BitVec 1 := Scalar.cmpi .slt v484 c0_i32_405
  let c0_i32_406 : BitVec 32 := 0#32
  let v487 : BitVec 1 := Scalar.cmpi .slt v483 c0_i32_406
  let v488 : BitVec 1 := Scalar.xori v486 v487
  let c0_i32_404 : BitVec 32 := 0#32
  let v485 : BitVec 1 := Scalar.cmpi .ne v484 c0_i32_404
  let v489 : BitVec 1 := Scalar.andi v488 v485
  let v490 : BitVec 32 := Scalar.addi v484 v483
  let v491 : BitVec 32 := Scalar.select v489 v490 v484
  let c1_i32_411 : BitVec 32 := 1#32
  let v492 : BitVec 32 := Scalar.muli v491 c1_i32_411
  let v493 : BitVec 32 := Scalar.addi c0_i32_412 v492
  v493.toNat
def k0_dev18 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_419 : BitVec 32 := 4#32
  let v502 : BitVec 32 := Scalar.subi v2 c4_i32_419
  let c8_i32_420 : BitVec 32 := 8#32
  let c0_i32_421 : BitVec 32 := 0#32
  let v503 : BitVec 1 := Scalar.cmpi .eq c8_i32_420 c0_i32_421
  let c1_i32_422 : BitVec 32 := 1#32
  let v504 : BitVec 32 := Scalar.select v503 c1_i32_422 c8_i32_420
  let v505 : BitVec 32 := Scalar.remsi v502 v504
  let c0_i32_424 : BitVec 32 := 0#32
  let v507 : BitVec 1 := Scalar.cmpi .slt v505 c0_i32_424
  let c0_i32_425 : BitVec 32 := 0#32
  let v508 : BitVec 1 := Scalar.cmpi .slt v504 c0_i32_425
  let v509 : BitVec 1 := Scalar.xori v507 v508
  let c0_i32_423 : BitVec 32 := 0#32
  let v506 : BitVec 1 := Scalar.cmpi .ne v505 c0_i32_423
  let v510 : BitVec 1 := Scalar.andi v509 v506
  let v511 : BitVec 32 := Scalar.addi v505 v504
  let v512 : BitVec 32 := Scalar.select v510 v511 v505
  let c1_i32_430 : BitVec 32 := 1#32
  let v513 : BitVec 32 := Scalar.muli v512 c1_i32_430
  let v514 : BitVec 32 := Scalar.addi c0_i32_431 v513
  v514.toNat
def k0_dev19 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_503 : BitVec 32 := 5#32
  let v582 : BitVec 32 := Scalar.subi v2 c5_i32_503
  let c8_i32_504 : BitVec 32 := 8#32
  let c0_i32_505 : BitVec 32 := 0#32
  let v583 : BitVec 1 := Scalar.cmpi .eq c8_i32_504 c0_i32_505
  let c1_i32_506 : BitVec 32 := 1#32
  let v584 : BitVec 32 := Scalar.select v583 c1_i32_506 c8_i32_504
  let v585 : BitVec 32 := Scalar.remsi v582 v584
  let c0_i32_508 : BitVec 32 := 0#32
  let v587 : BitVec 1 := Scalar.cmpi .slt v585 c0_i32_508
  let c0_i32_509 : BitVec 32 := 0#32
  let v588 : BitVec 1 := Scalar.cmpi .slt v584 c0_i32_509
  let v589 : BitVec 1 := Scalar.xori v587 v588
  let c0_i32_507 : BitVec 32 := 0#32
  let v586 : BitVec 1 := Scalar.cmpi .ne v585 c0_i32_507
  let v590 : BitVec 1 := Scalar.andi v589 v586
  let v591 : BitVec 32 := Scalar.addi v585 v584
  let v592 : BitVec 32 := Scalar.select v590 v591 v585
  let c1_i32_514 : BitVec 32 := 1#32
  let v593 : BitVec 32 := Scalar.muli v592 c1_i32_514
  let v594 : BitVec 32 := Scalar.addi c0_i32_515 v593
  v594.toNat
def k0_dev20 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_522 : BitVec 32 := 6#32
  let v603 : BitVec 32 := Scalar.subi v2 c6_i32_522
  let c8_i32_523 : BitVec 32 := 8#32
  let c0_i32_524 : BitVec 32 := 0#32
  let v604 : BitVec 1 := Scalar.cmpi .eq c8_i32_523 c0_i32_524
  let c1_i32_525 : BitVec 32 := 1#32
  let v605 : BitVec 32 := Scalar.select v604 c1_i32_525 c8_i32_523
  let v606 : BitVec 32 := Scalar.remsi v603 v605
  let c0_i32_527 : BitVec 32 := 0#32
  let v608 : BitVec 1 := Scalar.cmpi .slt v606 c0_i32_527
  let c0_i32_528 : BitVec 32 := 0#32
  let v609 : BitVec 1 := Scalar.cmpi .slt v605 c0_i32_528
  let v610 : BitVec 1 := Scalar.xori v608 v609
  let c0_i32_526 : BitVec 32 := 0#32
  let v607 : BitVec 1 := Scalar.cmpi .ne v606 c0_i32_526
  let v611 : BitVec 1 := Scalar.andi v610 v607
  let v612 : BitVec 32 := Scalar.addi v606 v605
  let v613 : BitVec 32 := Scalar.select v611 v612 v606
  let c1_i32_533 : BitVec 32 := 1#32
  let v614 : BitVec 32 := Scalar.muli v613 c1_i32_533
  let v615 : BitVec 32 := Scalar.addi c0_i32_534 v614
  v615.toNat
def k0_dev21 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_541 : BitVec 32 := 7#32
  let v624 : BitVec 32 := Scalar.subi v2 c7_i32_541
  let c8_i32_542 : BitVec 32 := 8#32
  let c0_i32_543 : BitVec 32 := 0#32
  let v625 : BitVec 1 := Scalar.cmpi .eq c8_i32_542 c0_i32_543
  let c1_i32_544 : BitVec 32 := 1#32
  let v626 : BitVec 32 := Scalar.select v625 c1_i32_544 c8_i32_542
  let v627 : BitVec 32 := Scalar.remsi v624 v626
  let c0_i32_546 : BitVec 32 := 0#32
  let v629 : BitVec 1 := Scalar.cmpi .slt v627 c0_i32_546
  let c0_i32_547 : BitVec 32 := 0#32
  let v630 : BitVec 1 := Scalar.cmpi .slt v626 c0_i32_547
  let v631 : BitVec 1 := Scalar.xori v629 v630
  let c0_i32_545 : BitVec 32 := 0#32
  let v628 : BitVec 1 := Scalar.cmpi .ne v627 c0_i32_545
  let v632 : BitVec 1 := Scalar.andi v631 v628
  let v633 : BitVec 32 := Scalar.addi v627 v626
  let v634 : BitVec 32 := Scalar.select v632 v633 v627
  let c1_i32_552 : BitVec 32 := 1#32
  let v635 : BitVec 32 := Scalar.muli v634 c1_i32_552
  let v636 : BitVec 32 := Scalar.addi c0_i32_553 v635
  v636.toNat
def k0_dev22 (d0 : Dev nD) : Nat :=
  let c0_i32_829_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_820_r0 : BitVec 32 := 1#32
  let v810_r0 : BitVec 32 := Scalar.addi v2 c1_i32_820_r0
  let c8_i32_821_r0 : BitVec 32 := 8#32
  let c0_i32_822_r0 : BitVec 32 := 0#32
  let v811_r0 : BitVec 1 := Scalar.cmpi .eq c8_i32_821_r0 c0_i32_822_r0
  let c1_i32_823_r0 : BitVec 32 := 1#32
  let v812_r0 : BitVec 32 := Scalar.select v811_r0 c1_i32_823_r0 c8_i32_821_r0
  let v813_r0 : BitVec 32 := Scalar.remsi v810_r0 v812_r0
  let c0_i32_825_r0 : BitVec 32 := 0#32
  let v815_r0 : BitVec 1 := Scalar.cmpi .slt v813_r0 c0_i32_825_r0
  let c0_i32_826_r0 : BitVec 32 := 0#32
  let v816_r0 : BitVec 1 := Scalar.cmpi .slt v812_r0 c0_i32_826_r0
  let v817_r0 : BitVec 1 := Scalar.xori v815_r0 v816_r0
  let c0_i32_824_r0 : BitVec 32 := 0#32
  let v814_r0 : BitVec 1 := Scalar.cmpi .ne v813_r0 c0_i32_824_r0
  let v818_r0 : BitVec 1 := Scalar.andi v817_r0 v814_r0
  let v819_r0 : BitVec 32 := Scalar.addi v813_r0 v812_r0
  let v820_r0 : BitVec 32 := Scalar.select v818_r0 v819_r0 v813_r0
  let c1_i32_828_r0 : BitVec 32 := 1#32
  let v821_r0 : BitVec 32 := Scalar.muli v820_r0 c1_i32_828_r0
  let v822_r0 : BitVec 32 := Scalar.addi c0_i32_829_r0 v821_r0
  v822_r0.toNat
def k0_dev23 (d0 : Dev nD) : Nat :=
  let c0_i32_839_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_830_r0 : BitVec 32 := 2#32
  let v823_r0 : BitVec 32 := Scalar.addi v2 c2_i32_830_r0
  let c8_i32_831_r0 : BitVec 32 := 8#32
  let c0_i32_832_r0 : BitVec 32 := 0#32
  let v824_r0 : BitVec 1 := Scalar.cmpi .eq c8_i32_831_r0 c0_i32_832_r0
  let c1_i32_833_r0 : BitVec 32 := 1#32
  let v825_r0 : BitVec 32 := Scalar.select v824_r0 c1_i32_833_r0 c8_i32_831_r0
  let v826_r0 : BitVec 32 := Scalar.remsi v823_r0 v825_r0
  let c0_i32_835_r0 : BitVec 32 := 0#32
  let v828_r0 : BitVec 1 := Scalar.cmpi .slt v826_r0 c0_i32_835_r0
  let c0_i32_836_r0 : BitVec 32 := 0#32
  let v829_r0 : BitVec 1 := Scalar.cmpi .slt v825_r0 c0_i32_836_r0
  let v830_r0 : BitVec 1 := Scalar.xori v828_r0 v829_r0
  let c0_i32_834_r0 : BitVec 32 := 0#32
  let v827_r0 : BitVec 1 := Scalar.cmpi .ne v826_r0 c0_i32_834_r0
  let v831_r0 : BitVec 1 := Scalar.andi v830_r0 v827_r0
  let v832_r0 : BitVec 32 := Scalar.addi v826_r0 v825_r0
  let v833_r0 : BitVec 32 := Scalar.select v831_r0 v832_r0 v826_r0
  let c1_i32_838_r0 : BitVec 32 := 1#32
  let v834_r0 : BitVec 32 := Scalar.muli v833_r0 c1_i32_838_r0
  let v835_r0 : BitVec 32 := Scalar.addi c0_i32_839_r0 v834_r0
  v835_r0.toNat
def k0_dev24 (d0 : Dev nD) : Nat :=
  let c0_i32_849_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_840_r0 : BitVec 32 := 3#32
  let v836_r0 : BitVec 32 := Scalar.addi v2 c3_i32_840_r0
  let c8_i32_841_r0 : BitVec 32 := 8#32
  let c0_i32_842_r0 : BitVec 32 := 0#32
  let v837_r0 : BitVec 1 := Scalar.cmpi .eq c8_i32_841_r0 c0_i32_842_r0
  let c1_i32_843_r0 : BitVec 32 := 1#32
  let v838_r0 : BitVec 32 := Scalar.select v837_r0 c1_i32_843_r0 c8_i32_841_r0
  let v839_r0 : BitVec 32 := Scalar.remsi v836_r0 v838_r0
  let c0_i32_845_r0 : BitVec 32 := 0#32
  let v841_r0 : BitVec 1 := Scalar.cmpi .slt v839_r0 c0_i32_845_r0
  let c0_i32_846_r0 : BitVec 32 := 0#32
  let v842_r0 : BitVec 1 := Scalar.cmpi .slt v838_r0 c0_i32_846_r0
  let v843_r0 : BitVec 1 := Scalar.xori v841_r0 v842_r0
  let c0_i32_844_r0 : BitVec 32 := 0#32
  let v840_r0 : BitVec 1 := Scalar.cmpi .ne v839_r0 c0_i32_844_r0
  let v844_r0 : BitVec 1 := Scalar.andi v843_r0 v840_r0
  let v845_r0 : BitVec 32 := Scalar.addi v839_r0 v838_r0
  let v846_r0 : BitVec 32 := Scalar.select v844_r0 v845_r0 v839_r0
  let c1_i32_848_r0 : BitVec 32 := 1#32
  let v847_r0 : BitVec 32 := Scalar.muli v846_r0 c1_i32_848_r0
  let v848_r0 : BitVec 32 := Scalar.addi c0_i32_849_r0 v847_r0
  v848_r0.toNat
def k0_dev25 (d0 : Dev nD) : Nat :=
  let c0_i32_859_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_850_r0 : BitVec 32 := 4#32
  let v849_r0 : BitVec 32 := Scalar.addi v2 c4_i32_850_r0
  let c8_i32_851_r0 : BitVec 32 := 8#32
  let c0_i32_852_r0 : BitVec 32 := 0#32
  let v850_r0 : BitVec 1 := Scalar.cmpi .eq c8_i32_851_r0 c0_i32_852_r0
  let c1_i32_853_r0 : BitVec 32 := 1#32
  let v851_r0 : BitVec 32 := Scalar.select v850_r0 c1_i32_853_r0 c8_i32_851_r0
  let v852_r0 : BitVec 32 := Scalar.remsi v849_r0 v851_r0
  let c0_i32_855_r0 : BitVec 32 := 0#32
  let v854_r0 : BitVec 1 := Scalar.cmpi .slt v852_r0 c0_i32_855_r0
  let c0_i32_856_r0 : BitVec 32 := 0#32
  let v855_r0 : BitVec 1 := Scalar.cmpi .slt v851_r0 c0_i32_856_r0
  let v856_r0 : BitVec 1 := Scalar.xori v854_r0 v855_r0
  let c0_i32_854_r0 : BitVec 32 := 0#32
  let v853_r0 : BitVec 1 := Scalar.cmpi .ne v852_r0 c0_i32_854_r0
  let v857_r0 : BitVec 1 := Scalar.andi v856_r0 v853_r0
  let v858_r0 : BitVec 32 := Scalar.addi v852_r0 v851_r0
  let v859_r0 : BitVec 32 := Scalar.select v857_r0 v858_r0 v852_r0
  let c1_i32_858_r0 : BitVec 32 := 1#32
  let v860_r0 : BitVec 32 := Scalar.muli v859_r0 c1_i32_858_r0
  let v861_r0 : BitVec 32 := Scalar.addi c0_i32_859_r0 v860_r0
  v861_r0.toNat
def k0_dev26 (d0 : Dev nD) : Nat :=
  let c0_i32_869_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_860_r0 : BitVec 32 := 5#32
  let v862_r0 : BitVec 32 := Scalar.addi v2 c5_i32_860_r0
  let c8_i32_861_r0 : BitVec 32 := 8#32
  let c0_i32_862_r0 : BitVec 32 := 0#32
  let v863_r0 : BitVec 1 := Scalar.cmpi .eq c8_i32_861_r0 c0_i32_862_r0
  let c1_i32_863_r0 : BitVec 32 := 1#32
  let v864_r0 : BitVec 32 := Scalar.select v863_r0 c1_i32_863_r0 c8_i32_861_r0
  let v865_r0 : BitVec 32 := Scalar.remsi v862_r0 v864_r0
  let c0_i32_865_r0 : BitVec 32 := 0#32
  let v867_r0 : BitVec 1 := Scalar.cmpi .slt v865_r0 c0_i32_865_r0
  let c0_i32_866_r0 : BitVec 32 := 0#32
  let v868_r0 : BitVec 1 := Scalar.cmpi .slt v864_r0 c0_i32_866_r0
  let v869_r0 : BitVec 1 := Scalar.xori v867_r0 v868_r0
  let c0_i32_864_r0 : BitVec 32 := 0#32
  let v866_r0 : BitVec 1 := Scalar.cmpi .ne v865_r0 c0_i32_864_r0
  let v870_r0 : BitVec 1 := Scalar.andi v869_r0 v866_r0
  let v871_r0 : BitVec 32 := Scalar.addi v865_r0 v864_r0
  let v872_r0 : BitVec 32 := Scalar.select v870_r0 v871_r0 v865_r0
  let c1_i32_868_r0 : BitVec 32 := 1#32
  let v873_r0 : BitVec 32 := Scalar.muli v872_r0 c1_i32_868_r0
  let v874_r0 : BitVec 32 := Scalar.addi c0_i32_869_r0 v873_r0
  v874_r0.toNat
def k0_dev27 (d0 : Dev nD) : Nat :=
  let c0_i32_879_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_870_r0 : BitVec 32 := 6#32
  let v875_r0 : BitVec 32 := Scalar.addi v2 c6_i32_870_r0
  let c8_i32_871_r0 : BitVec 32 := 8#32
  let c0_i32_872_r0 : BitVec 32 := 0#32
  let v876_r0 : BitVec 1 := Scalar.cmpi .eq c8_i32_871_r0 c0_i32_872_r0
  let c1_i32_873_r0 : BitVec 32 := 1#32
  let v877_r0 : BitVec 32 := Scalar.select v876_r0 c1_i32_873_r0 c8_i32_871_r0
  let v878_r0 : BitVec 32 := Scalar.remsi v875_r0 v877_r0
  let c0_i32_875_r0 : BitVec 32 := 0#32
  let v880_r0 : BitVec 1 := Scalar.cmpi .slt v878_r0 c0_i32_875_r0
  let c0_i32_876_r0 : BitVec 32 := 0#32
  let v881_r0 : BitVec 1 := Scalar.cmpi .slt v877_r0 c0_i32_876_r0
  let v882_r0 : BitVec 1 := Scalar.xori v880_r0 v881_r0
  let c0_i32_874_r0 : BitVec 32 := 0#32
  let v879_r0 : BitVec 1 := Scalar.cmpi .ne v878_r0 c0_i32_874_r0
  let v883_r0 : BitVec 1 := Scalar.andi v882_r0 v879_r0
  let v884_r0 : BitVec 32 := Scalar.addi v878_r0 v877_r0
  let v885_r0 : BitVec 32 := Scalar.select v883_r0 v884_r0 v878_r0
  let c1_i32_878_r0 : BitVec 32 := 1#32
  let v886_r0 : BitVec 32 := Scalar.muli v885_r0 c1_i32_878_r0
  let v887_r0 : BitVec 32 := Scalar.addi c0_i32_879_r0 v886_r0
  v887_r0.toNat
def k0_dev28 (d0 : Dev nD) : Nat :=
  let c0_i32_889_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_880_r0 : BitVec 32 := 7#32
  let v888_r0 : BitVec 32 := Scalar.addi v2 c7_i32_880_r0
  let c8_i32_881_r0 : BitVec 32 := 8#32
  let c0_i32_882_r0 : BitVec 32 := 0#32
  let v889_r0 : BitVec 1 := Scalar.cmpi .eq c8_i32_881_r0 c0_i32_882_r0
  let c1_i32_883_r0 : BitVec 32 := 1#32
  let v890_r0 : BitVec 32 := Scalar.select v889_r0 c1_i32_883_r0 c8_i32_881_r0
  let v891_r0 : BitVec 32 := Scalar.remsi v888_r0 v890_r0
  let c0_i32_885_r0 : BitVec 32 := 0#32
  let v893_r0 : BitVec 1 := Scalar.cmpi .slt v891_r0 c0_i32_885_r0
  let c0_i32_886_r0 : BitVec 32 := 0#32
  let v894_r0 : BitVec 1 := Scalar.cmpi .slt v890_r0 c0_i32_886_r0
  let v895_r0 : BitVec 1 := Scalar.xori v893_r0 v894_r0
  let c0_i32_884_r0 : BitVec 32 := 0#32
  let v892_r0 : BitVec 1 := Scalar.cmpi .ne v891_r0 c0_i32_884_r0
  let v896_r0 : BitVec 1 := Scalar.andi v895_r0 v892_r0
  let v897_r0 : BitVec 32 := Scalar.addi v891_r0 v890_r0
  let v898_r0 : BitVec 32 := Scalar.select v896_r0 v897_r0 v891_r0
  let c1_i32_888_r0 : BitVec 32 := 1#32
  let v899_r0 : BitVec 32 := Scalar.muli v898_r0 c1_i32_888_r0
  let v900_r0 : BitVec 32 := Scalar.addi c0_i32_889_r0 v899_r0
  v900_r0.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x512 : Shape := ⟨2, ![4096, 512]⟩
abbrev S4096 : Shape := ⟨1, ![4096]⟩
abbrev S16x512x1024 : Shape := ⟨3, ![16, 512, 1024]⟩
abbrev S16x1024x512 : Shape := ⟨3, ![16, 1024, 512]⟩
abbrev S_ : Shape := ⟨0, ![]⟩
abbrev S1x512x1024 : Shape := ⟨3, ![1, 512, 1024]⟩
abbrev S512x1024 : Shape := ⟨2, ![512, 1024]⟩
abbrev S4096x1024 : Shape := ⟨2, ![4096, 1024]⟩
abbrev S4096x1 : Shape := ⟨2, ![4096, 1]⟩
abbrev S1x1024x512 : Shape := ⟨3, ![1, 1024, 512]⟩
abbrev S1024x512 : Shape := ⟨2, ![1024, 512]⟩

abbrev nBuf : Space → Nat
  | .hbm => 246
  | .vmem => 0
  | .smem => 0
  | _ => 0

abbrev hbmTy0_0 (i : Nat) : BufTy := match i % 128 with
  | 0 => ⟨S4096x512, .f32⟩
  | 1 => ⟨S4096, .i32⟩
  | 2 => ⟨S16x512x1024, .f32⟩
  | 3 => ⟨S16x1024x512, .f32⟩
  | 4 => ⟨S_, .f32⟩
  | 5 => ⟨S4096x512, .f32⟩
  | 6 => ⟨S1x512x1024, .f32⟩
  | 7 => ⟨S512x1024, .f32⟩
  | 8 => ⟨S4096x1024, .f32⟩
  | 9 => ⟨S_, .f32⟩
  | 10 => ⟨S4096x1024, .f32⟩
  | 11 => ⟨S4096x1024, .f32⟩
  | 12 => ⟨S_, .i32⟩
  | 13 => ⟨S4096, .i32⟩
  | 14 => ⟨S4096, .i1⟩
  | 15 => ⟨S4096x1, .i1⟩
  | 16 => ⟨S1x1024x512, .f32⟩
  | 17 => ⟨S1024x512, .f32⟩
  | 18 => ⟨S4096x512, .f32⟩
  | 19 => ⟨S4096x512, .i1⟩
  | 20 => ⟨S4096x512, .f32⟩
  | 21 => ⟨S1x512x1024, .f32⟩
  | 22 => ⟨S512x1024, .f32⟩
  | 23 => ⟨S4096x1024, .f32⟩
  | 24 => ⟨S_, .f32⟩
  | 25 => ⟨S4096x1024, .f32⟩
  | 26 => ⟨S4096x1024, .f32⟩
  | 27 => ⟨S_, .i32⟩
  | 28 => ⟨S4096, .i32⟩
  | 29 => ⟨S4096, .i1⟩
  | 30 => ⟨S4096x1, .i1⟩
  | 31 => ⟨S1x1024x512, .f32⟩
  | 32 => ⟨S1024x512, .f32⟩
  | 33 => ⟨S4096x512, .f32⟩
  | 34 => ⟨S4096x512, .i1⟩
  | 35 => ⟨S4096x512, .f32⟩
  | 36 => ⟨S1x512x1024, .f32⟩
  | 37 => ⟨S512x1024, .f32⟩
  | 38 => ⟨S4096x1024, .f32⟩
  | 39 => ⟨S_, .f32⟩
  | 40 => ⟨S4096x1024, .f32⟩
  | 41 => ⟨S4096x1024, .f32⟩
  | 42 => ⟨S_, .i32⟩
  | 43 => ⟨S4096, .i32⟩
  | 44 => ⟨S4096, .i1⟩
  | 45 => ⟨S4096x1, .i1⟩
  | 46 => ⟨S1x1024x512, .f32⟩
  | 47 => ⟨S1024x512, .f32⟩
  | 48 => ⟨S4096x512, .f32⟩
  | 49 => ⟨S4096x512, .i1⟩
  | 50 => ⟨S4096x512, .f32⟩
  | 51 => ⟨S1x512x1024, .f32⟩
  | 52 => ⟨S512x1024, .f32⟩
  | 53 => ⟨S4096x1024, .f32⟩
  | 54 => ⟨S_, .f32⟩
  | 55 => ⟨S4096x1024, .f32⟩
  | 56 => ⟨S4096x1024, .f32⟩
  | 57 => ⟨S_, .i32⟩
  | 58 => ⟨S4096, .i32⟩
  | 59 => ⟨S4096, .i1⟩
  | 60 => ⟨S4096x1, .i1⟩
  | 61 => ⟨S1x1024x512, .f32⟩
  | 62 => ⟨S1024x512, .f32⟩
  | 63 => ⟨S4096x512, .f32⟩
  | 64 => ⟨S4096x512, .i1⟩
  | 65 => ⟨S4096x512, .f32⟩
  | 66 => ⟨S1x512x1024, .f32⟩
  | 67 => ⟨S512x1024, .f32⟩
  | 68 => ⟨S4096x1024, .f32⟩
  | 69 => ⟨S_, .f32⟩
  | 70 => ⟨S4096x1024, .f32⟩
  | 71 => ⟨S4096x1024, .f32⟩
  | 72 => ⟨S_, .i32⟩
  | 73 => ⟨S4096, .i32⟩
  | 74 => ⟨S4096, .i1⟩
  | 75 => ⟨S4096x1, .i1⟩
  | 76 => ⟨S1x1024x512, .f32⟩
  | 77 => ⟨S1024x512, .f32⟩
  | 78 => ⟨S4096x512, .f32⟩
  | 79 => ⟨S4096x512, .i1⟩
  | 80 => ⟨S4096x512, .f32⟩
  | 81 => ⟨S1x512x1024, .f32⟩
  | 82 => ⟨S512x1024, .f32⟩
  | 83 => ⟨S4096x1024, .f32⟩
  | 84 => ⟨S_, .f32⟩
  | 85 => ⟨S4096x1024, .f32⟩
  | 86 => ⟨S4096x1024, .f32⟩
  | 87 => ⟨S_, .i32⟩
  | 88 => ⟨S4096, .i32⟩
  | 89 => ⟨S4096, .i1⟩
  | 90 => ⟨S4096x1, .i1⟩
  | 91 => ⟨S1x1024x512, .f32⟩
  | 92 => ⟨S1024x512, .f32⟩
  | 93 => ⟨S4096x512, .f32⟩
  | 94 => ⟨S4096x512, .i1⟩
  | 95 => ⟨S4096x512, .f32⟩
  | 96 => ⟨S1x512x1024, .f32⟩
  | 97 => ⟨S512x1024, .f32⟩
  | 98 => ⟨S4096x1024, .f32⟩
  | 99 => ⟨S_, .f32⟩
  | 100 => ⟨S4096x1024, .f32⟩
  | 101 => ⟨S4096x1024, .f32⟩
  | 102 => ⟨S_, .i32⟩
  | 103 => ⟨S4096, .i32⟩
  | 104 => ⟨S4096, .i1⟩
  | 105 => ⟨S4096x1, .i1⟩
  | 106 => ⟨S1x1024x512, .f32⟩
  | 107 => ⟨S1024x512, .f32⟩
  | 108 => ⟨S4096x512, .f32⟩
  | 109 => ⟨S4096x512, .i1⟩
  | 110 => ⟨S4096x512, .f32⟩
  | 111 => ⟨S1x512x1024, .f32⟩
  | 112 => ⟨S512x1024, .f32⟩
  | 113 => ⟨S4096x1024, .f32⟩
  | 114 => ⟨S_, .f32⟩
  | 115 => ⟨S4096x1024, .f32⟩
  | 116 => ⟨S4096x1024, .f32⟩
  | 117 => ⟨S_, .i32⟩
  | 118 => ⟨S4096, .i32⟩
  | 119 => ⟨S4096, .i1⟩
  | 120 => ⟨S4096x1, .i1⟩
  | 121 => ⟨S1x1024x512, .f32⟩
  | 122 => ⟨S1024x512, .f32⟩
  | 123 => ⟨S4096x512, .f32⟩
  | 124 => ⟨S4096x512, .i1⟩
  | 125 => ⟨S4096x512, .f32⟩
  | 126 => ⟨S1x512x1024, .f32⟩
  | 127 => ⟨S512x1024, .f32⟩
  | _ => ⟨S4096x512, .f32⟩

abbrev hbmTy0_1 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S_, .i32⟩
  | 5 => ⟨S4096, .i32⟩
  | 6 => ⟨S4096, .i1⟩
  | 7 => ⟨S4096x1, .i1⟩
  | 8 => ⟨S1x1024x512, .f32⟩
  | 9 => ⟨S1024x512, .f32⟩
  | 10 => ⟨S4096x512, .f32⟩
  | 11 => ⟨S4096x512, .i1⟩
  | 12 => ⟨S4096x512, .f32⟩
  | 13 => ⟨S1x512x1024, .f32⟩
  | 14 => ⟨S512x1024, .f32⟩
  | 15 => ⟨S4096x1024, .f32⟩
  | 16 => ⟨S_, .f32⟩
  | 17 => ⟨S4096x1024, .f32⟩
  | 18 => ⟨S4096x1024, .f32⟩
  | 19 => ⟨S_, .i32⟩
  | 20 => ⟨S4096, .i32⟩
  | 21 => ⟨S4096, .i1⟩
  | 22 => ⟨S4096x1, .i1⟩
  | 23 => ⟨S1x1024x512, .f32⟩
  | 24 => ⟨S1024x512, .f32⟩
  | 25 => ⟨S4096x512, .f32⟩
  | 26 => ⟨S4096x512, .i1⟩
  | 27 => ⟨S4096x512, .f32⟩
  | 28 => ⟨S1x512x1024, .f32⟩
  | 29 => ⟨S512x1024, .f32⟩
  | 30 => ⟨S4096x1024, .f32⟩
  | 31 => ⟨S_, .f32⟩
  | 32 => ⟨S4096x1024, .f32⟩
  | 33 => ⟨S4096x1024, .f32⟩
  | 34 => ⟨S_, .i32⟩
  | 35 => ⟨S4096, .i32⟩
  | 36 => ⟨S4096, .i1⟩
  | 37 => ⟨S4096x1, .i1⟩
  | 38 => ⟨S1x1024x512, .f32⟩
  | 39 => ⟨S1024x512, .f32⟩
  | 40 => ⟨S4096x512, .f32⟩
  | 41 => ⟨S4096x512, .i1⟩
  | 42 => ⟨S4096x512, .f32⟩
  | 43 => ⟨S1x512x1024, .f32⟩
  | 44 => ⟨S512x1024, .f32⟩
  | 45 => ⟨S4096x1024, .f32⟩
  | 46 => ⟨S_, .f32⟩
  | 47 => ⟨S4096x1024, .f32⟩
  | 48 => ⟨S4096x1024, .f32⟩
  | 49 => ⟨S_, .i32⟩
  | 50 => ⟨S4096, .i32⟩
  | 51 => ⟨S4096, .i1⟩
  | 52 => ⟨S4096x1, .i1⟩
  | 53 => ⟨S1x1024x512, .f32⟩
  | 54 => ⟨S1024x512, .f32⟩
  | 55 => ⟨S4096x512, .f32⟩
  | 56 => ⟨S4096x512, .i1⟩
  | 57 => ⟨S4096x512, .f32⟩
  | 58 => ⟨S1x512x1024, .f32⟩
  | 59 => ⟨S512x1024, .f32⟩
  | 60 => ⟨S4096x1024, .f32⟩
  | 61 => ⟨S_, .f32⟩
  | 62 => ⟨S4096x1024, .f32⟩
  | 63 => ⟨S4096x1024, .f32⟩
  | 64 => ⟨S_, .i32⟩
  | 65 => ⟨S4096, .i32⟩
  | 66 => ⟨S4096, .i1⟩
  | 67 => ⟨S4096x1, .i1⟩
  | 68 => ⟨S1x1024x512, .f32⟩
  | 69 => ⟨S1024x512, .f32⟩
  | 70 => ⟨S4096x512, .f32⟩
  | 71 => ⟨S4096x512, .i1⟩
  | 72 => ⟨S4096x512, .f32⟩
  | 73 => ⟨S1x512x1024, .f32⟩
  | 74 => ⟨S512x1024, .f32⟩
  | 75 => ⟨S4096x1024, .f32⟩
  | 76 => ⟨S_, .f32⟩
  | 77 => ⟨S4096x1024, .f32⟩
  | 78 => ⟨S4096x1024, .f32⟩
  | 79 => ⟨S_, .i32⟩
  | 80 => ⟨S4096, .i32⟩
  | 81 => ⟨S4096, .i1⟩
  | 82 => ⟨S4096x1, .i1⟩
  | 83 => ⟨S1x1024x512, .f32⟩
  | 84 => ⟨S1024x512, .f32⟩
  | 85 => ⟨S4096x512, .f32⟩
  | 86 => ⟨S4096x512, .i1⟩
  | 87 => ⟨S4096x512, .f32⟩
  | 88 => ⟨S1x512x1024, .f32⟩
  | 89 => ⟨S512x1024, .f32⟩
  | 90 => ⟨S4096x1024, .f32⟩
  | 91 => ⟨S_, .f32⟩
  | 92 => ⟨S4096x1024, .f32⟩
  | 93 => ⟨S4096x1024, .f32⟩
  | 94 => ⟨S_, .i32⟩
  | 95 => ⟨S4096, .i32⟩
  | 96 => ⟨S4096, .i1⟩
  | 97 => ⟨S4096x1, .i1⟩
  | 98 => ⟨S1x1024x512, .f32⟩
  | 99 => ⟨S1024x512, .f32⟩
  | 100 => ⟨S4096x512, .f32⟩
  | 101 => ⟨S4096x512, .i1⟩
  | 102 => ⟨S4096x512, .f32⟩
  | 103 => ⟨S1x512x1024, .f32⟩
  | 104 => ⟨S512x1024, .f32⟩
  | 105 => ⟨S4096x1024, .f32⟩
  | 106 => ⟨S_, .f32⟩
  | 107 => ⟨S4096x1024, .f32⟩
  | 108 => ⟨S4096x1024, .f32⟩
  | 109 => ⟨S_, .i32⟩
  | 110 => ⟨S4096, .i32⟩
  | 111 => ⟨S4096, .i1⟩
  | 112 => ⟨S4096x1, .i1⟩
  | 113 => ⟨S1x1024x512, .f32⟩
  | 114 => ⟨S1024x512, .f32⟩
  | 115 => ⟨S4096x512, .f32⟩
  | 116 => ⟨S4096x512, .i1⟩
  | 117 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_c_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_c_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_15 : Ref sig .tc := ⟨.hbm, 129, rfl⟩
abbrev main_v100 : Ref sig .tc := ⟨.hbm, 130, rfl⟩
abbrev main_v101 : Ref sig .tc := ⟨.hbm, 131, rfl⟩
abbrev main_c_16 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_call8_v0 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_17 : Ref sig .tc := ⟨.hbm, 144, rfl⟩
abbrev main_v112 : Ref sig .tc := ⟨.hbm, 145, rfl⟩
abbrev main_v113 : Ref sig .tc := ⟨.hbm, 146, rfl⟩
abbrev main_c_18 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_call9_v0 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_19 : Ref sig .tc := ⟨.hbm, 159, rfl⟩
abbrev main_v124 : Ref sig .tc := ⟨.hbm, 160, rfl⟩
abbrev main_v125 : Ref sig .tc := ⟨.hbm, 161, rfl⟩
abbrev main_c_20 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_call10_v0 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_21 : Ref sig .tc := ⟨.hbm, 174, rfl⟩
abbrev main_v136 : Ref sig .tc := ⟨.hbm, 175, rfl⟩
abbrev main_v137 : Ref sig .tc := ⟨.hbm, 176, rfl⟩
abbrev main_c_22 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_call11_v0 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_23 : Ref sig .tc := ⟨.hbm, 189, rfl⟩
abbrev main_v148 : Ref sig .tc := ⟨.hbm, 190, rfl⟩
abbrev main_v149 : Ref sig .tc := ⟨.hbm, 191, rfl⟩
abbrev main_c_24 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_call12_v0 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_25 : Ref sig .tc := ⟨.hbm, 204, rfl⟩
abbrev main_v160 : Ref sig .tc := ⟨.hbm, 205, rfl⟩
abbrev main_v161 : Ref sig .tc := ⟨.hbm, 206, rfl⟩
abbrev main_c_26 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_call13_v0 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_27 : Ref sig .tc := ⟨.hbm, 219, rfl⟩
abbrev main_v172 : Ref sig .tc := ⟨.hbm, 220, rfl⟩
abbrev main_v173 : Ref sig .tc := ⟨.hbm, 221, rfl⟩
abbrev main_c_28 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_call14_v0 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_29 : Ref sig .tc := ⟨.hbm, 234, rfl⟩
abbrev main_v184 : Ref sig .tc := ⟨.hbm, 235, rfl⟩
abbrev main_v185 : Ref sig .tc := ⟨.hbm, 236, rfl⟩
abbrev main_c_30 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_call15_v0 : Ref sig .tc := ⟨.hbm, 244, rfl⟩
abbrev main_v192 : Ref sig .tc := ⟨.hbm, 245, rfl⟩

abbrev nD : Nat := 1
abbrev τ : Topo := Topo.v7x

variable {F : FTy → Type} [FloatOps F]
-- ==== Proof.Cells.lean ====
/-
The exchange protocol's vocabulary: the rotation of the eight devices, the semaphore cells each device owns, the
scratch slots they guard, what every device owes at launch and the order in which waits may happen.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

/-- Round bookkeeping of the exchange; a duty is named by the offset of the device that pays it. -/
abbrev UX : Type := URounds (GSem nD τ sig) (Fin 8)
/-- The pipeline library's bookkeeping beside it. -/
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The rotation -/

set_option backward.proofsInPublic true in
/-- The device `o` places after `c`. -/
def up (o : Fin 8) (c : Dev nD) : Dev nD := ⟨(c.val + o.val) % 8, Nat.mod_lt _ (by decide)⟩
set_option backward.proofsInPublic true in
/-- The device `o` places before `c`. -/
def dn (o : Fin 8) (c : Dev nD) : Dev nD := ⟨(c.val + (8 - o.val)) % 8, Nat.mod_lt _ (by decide)⟩

theorem dn_up : ∀ (o : Fin 8) (c : Dev nD), dn o (up o c) = c := by decide +kernel
theorem up_dn : ∀ (o : Fin 8) (c : Dev nD), up o (dn o c) = c := by decide +kernel
theorem dn_neg : ∀ (o : Fin 8) (c : Dev nD), dn (-o) c = up o c := by decide +kernel
theorem up_neg : ∀ (o : Fin 8) (c : Dev nD), up (-o) c = dn o c := by decide +kernel
theorem neg_neg8 : ∀ o : Fin 8, - -o = o := by decide
theorem dn_zero : ∀ c : Dev nD, dn 0 c = c := by decide
theorem up_zero : ∀ c : Dev nD, up 0 c = c := by decide

/-- Moving every device `o` places on, as a permutation. -/
def turn (o : Fin 8) : Dev nD ≃ Dev nD := ⟨up o, dn o, dn_up o, up_dn o⟩

theorem up_inj (o : Fin 8) {c d : Dev nD} (h : up o c = up o d) : c = d := by
  have := congrArg (dn o) h; rwa [dn_up, dn_up] at this

/-! ## The cells -/

/-- The runtime's barrier semaphore. -/
abbrev barS : Sem sig := (SemArray.scalar (sig.barrier 0 rfl) : Sems sig S_).sem
/-- The semaphore of the closing barrier. -/
abbrev endS : Sem sig := (cc0_scoped0 : Sems sig S_).sem

/-- The DMA semaphores: family `j` (0 sends of `x`, 1 arrivals of `x`, 2 sends of `y`, 3 arrivals of `y`), offset `o`. -/
def dS (j : Fin 4) (o : Fin 8) : DmaSem sig := (⟨5 + 8 * j.val + o.val, by have := j.isLt; have := o.isLt; show _ < 37; omega⟩ : Fin 37)

abbrev barC (c : Dev nD) : GSem nD τ sig := ((c : Thread nD τ), .reg barS)
abbrev endC (c : Dev nD) : GSem nD τ sig := ((c : Thread nD τ), .reg endS)
abbrev dC (j : Fin 4) (o : Fin 8) (c : Dev nD) : GSem nD τ sig := ((c : Thread nD τ), .dma (dS j o))

/-- All of a device's exchange semaphores: barrier, closing barrier, then the four DMA families. -/
def csem (k : Fin 34) : SemLoc sig :=
  if k.val = 0 then .reg barS else if k.val = 1 then .reg endS else .dma ((⟨k.val + 3, by have := k.isLt; show _ < 37; omega⟩ : Fin 37) : DmaSem sig)
abbrev kC (ck : Dev nD × Fin 34) : GSem nD τ sig := ((ck.1 : Thread nD τ), csem ck.2)

/-- The position of a DMA semaphore in that list. -/
def dK (j : Fin 4) (o : Fin 8) : Fin 34 := ⟨2 + 8 * j.val + o.val, by have := j.isLt; have := o.isLt; omega⟩
theorem csem_bar : csem 0 = .reg barS := rfl
theorem csem_end : csem 1 = .reg endS := rfl
theorem csem_dma : ∀ (j : Fin 4) (o : Fin 8), csem (dK j o) = .dma (dS j o) := by decide +kernel
theorem csem_inj : Function.Injective csem := by
  have h : ∀ k k' : Fin 34, csem k = csem k' → k = k' := by decide +kernel
  exact fun k k' => h k k'

/-! ## Levels -/

/-- Staging and departures lowest, then the barrier, the arrivals of `x`, the arrivals of `y`, the closing barrier. -/
def lvS : SemLoc sig → ℕ
  | .reg q => if q = barS then 1 else 4
  | .dma q => if q.val < 13 then 0 else if q.val < 21 then 2 else if q.val < 29 then 0 else 3

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-! ## What a device owes -/

/-- One slot's transfer credits this much. -/
def N : ℕ := (View.whole (cc0_scratch0 : Ref sig .tc) |>.slice (Rect.unit (s := S8x2x48x512) ![0, 0, 0, 0] S1x2x48x512.size inb_S8x2x48x512_S1x2x48x512_0_0_0_0)).dmaCredit
theorem N_pos : 0 < N := View.dmaCredit_pos _ (by decide)

/-- The offsets that reach another device. -/
abbrev offs : List (Fin 8) := [1, 2, 3, 4, 5, 6, 7]

/-- What device `c` pays others, in program order: barrier units, rows of `x`, rows of `y`, closing units. -/
def dues (c : Dev nD) : List (GSem nD τ sig × ℕ) :=
  (offs.map fun o => (barC (up o c), 1)) ++ (offs.map fun o => (dC 1 o (up o c), N))
    ++ (offs.map fun o => (dC 3 o (dn o c), N)) ++ (offs.map fun o => (endC (up o c), 1))

/-- The tally of a list of payments, the first one the last summand. -/
def tally : List (GSem nD τ sig × ℕ) → CellTallies nD τ sig Unit
  | [] => 0
  | x :: l => tally l + tallyAt x.1 () x.2

/-- What device `c` still owes after its first `k` payments. -/
def due (c : Dev nD) (k : ℕ) : CellTallies nD τ sig Unit := tally ((dues c).drop k)

theorem due_step (c : Dev nD) (k : ℕ) {x : GSem nD τ sig × ℕ} (h : (dues c)[k]? = some x) : due c k = due c (k + 1) + tallyAt x.1 () x.2 := by
  obtain ⟨hk, hx⟩ := List.getElem?_eq_some_iff.mp h
  unfold due; rw [List.drop_eq_getElem_cons hk, tally, hx]

theorem due_end (c : Dev nD) : due c 28 = 0 := rfl

theorem tally_apply (l : List (GSem nD τ sig × ℕ)) (g : GSem nD τ sig) (u : Unit) :
    tally l g u = (l.map fun x => if x.1 = g then x.2 else 0).sum := by
  induction l with
  | nil => rfl
  | cons x l ih =>
    rw [tally, Pi.add_apply, Finsupp.add_apply, ih, tallyAt_apply, List.map_cons, List.sum_cons, Nat.add_comm]
    congr 1
    by_cases h : x.1 = g
    · rw [if_pos ⟨h.symm, rfl⟩, if_pos h]
    · rw [if_neg (fun h' => h h'.1.symm), if_neg h]

theorem tally_pos {l : List (GSem nD τ sig × ℕ)} {g : GSem nD τ sig} {u : Unit} (h : 0 < tally l g u) : ∃ x ∈ l, x.1 = g := by
  rw [tally_apply] at h
  by_contra hn
  push Not at hn
  rw [List.sum_eq_zero (fun y hy => by
    obtain ⟨x, hx, rfl⟩ := List.mem_map.mp hy
    exact if_neg (hn x hx))] at h
  exact Nat.lt_irrefl 0 h

/-- The levels of a device's payments, in order: the same at every device. -/
def dueLv : List ℕ := [1, 1, 1, 1, 1, 1, 1, 2, 2, 2, 2, 2, 2, 2, 3, 3, 3, 3, 3, 3, 3, 4, 4, 4, 4, 4, 4, 4]
theorem dueLv_eq (c : Dev nD) : (dues c).map (fun x => lvS x.1.2) = dueLv := by revert c; decide +kernel
theorem dues_tc (c : Dev nD) : ∀ x ∈ dues c, x.1.1.2 = .tc := by revert c; decide +kernel

/-- Having made `k` payments a device may wait on a cell below everything it still owes. -/
theorem mayWait (c : Dev nD) (sm : SemLoc sig) (k : ℕ) (h : ∀ ℓ ∈ dueLv.drop k, lvS sm < ℓ) :
    (levAts L lv : sProp 𝕄) ⊢ MayWait (c : Thread nD τ) sm () (due c k) :=
  MayOwe.of_cut (L := L) (lev := lv) (lvS sm) (fun p hp => by rw [Finset.mem_singleton.mp hp, L_tc]; exact Finset.mem_singleton_self _)
    (fun g u hg => by
      obtain ⟨x, hx, rfl⟩ := tally_pos hg
      unfold L; rw [if_pos (dues_tc c x (List.mem_of_mem_drop hx))]; exact Finset.mem_singleton_self _)
    (fun p hp => by rw [Finset.mem_singleton.mp hp]; exact Nat.le_refl _)
    (fun g u hg => by
      obtain ⟨x, hx, rfl⟩ := tally_pos hg
      refine h _ ?_
      rw [← dueLv_eq c, ← List.map_drop]
      exact List.mem_map.mpr ⟨x, hx, rfl⟩)

/-! ## The scratch slots -/

/-- The elements of a scratch buffer at offset `o`. -/
def slot (o : Fin 8) : Finset S8x2x48x512.Idx := Finset.univ.filter fun i => (i 0).val = o.val
/-- The elements at offsets `lo ≤ · < hi`. -/
def band (lo hi : ℕ) : Finset S8x2x48x512.Idx := Finset.univ.filter fun i => lo ≤ (i 0).val ∧ (i 0).val < hi

theorem mem_slot {o : Fin 8} {i : S8x2x48x512.Idx} : i ∈ slot o ↔ (i 0).val = o.val := by simp [slot]
theorem mem_band {lo hi : ℕ} {i : S8x2x48x512.Idx} : i ∈ band lo hi ↔ lo ≤ (i 0).val ∧ (i 0).val < hi := by simp [band]

variable (c : Dev nD)

/-- Device `c`'s elements `S` of each scratch buffer (rows out, rows in, results out, results in) at contents `f`. -/
abbrev xo (c : Dev nD) (S : Finset S8x2x48x512.Idx) (f : Vec F S8x2x48x512 .bf16) : sProp 𝕄 := ((c : Thread nD τ).loc cc0_scratch0) ↦[S]{fullShare} f
abbrev xi (c : Dev nD) (S : Finset S8x2x48x512.Idx) (f : Vec F S8x2x48x512 .bf16) : sProp 𝕄 := ((c : Thread nD τ).loc cc0_scratch1) ↦[S]{fullShare} f
abbrev yo (c : Dev nD) (S : Finset S8x2x48x512.Idx) (f : Vec F S8x2x48x512 .bf16) : sProp 𝕄 := ((c : Thread nD τ).loc cc0_scratch2) ↦[S]{fullShare} f
abbrev yi (c : Dev nD) (S : Finset S8x2x48x512.Idx) (f : Vec F S8x2x48x512 .bf16) : sProp 𝕄 := ((c : Thread nD τ).loc cc0_scratch3) ↦[S]{fullShare} f

end Cert.KernelIdeal.Moe

end
-- ==== Proof.Contents.lean ====
/-
What the kernel's buffers hold, as functions of the inputs of all eight devices: the one-hot dispatch matrix, the rows
sent out, the rows received, the results computed for others, the results received and the block written back.
-/
module

public import proofs.«01_k».proof.Proof.Cells
public import Idealize.ShloMosaic.Lib.Pipeline.Value

@[expose] public section

noncomputable section

namespace Cert.KernelIdeal.Moe

open Cert.KernelIdeal Cert.KernelIdeal.Gen
open Idealize.ShloMosaic
open Idealize.ShloMosaic.TcCoe

variable {F : FTy → Type} [FloatOps F]

/-- The inputs of every device. -/
structure Ins (F : FTy → Type) where
  x : Dev nD → Vec F S512x512 .f32
  a : Dev nD → Vec F S512 .i32
  w1 : Dev nD → Vec F S2x512x1024 .f32
  w2 : Dev nD → Vec F S2x1024x512 .f32

/-- What a load through `r` reads of a buffer holding `f`. -/
def rd {s : Shape} {α : Type} (r : Rect s) (f : s.Idx → α) : r.shape.Idx → α := fun j => f (r.emb j)

/-- A scratch buffer holding `f` after a store of `p` through `r`. -/
def yw (r : Rect S8x2x48x512) (p : r.shape.Idx → Elt F .bf16) (f : Vec F S8x2x48x512 .bf16) : Vec F S8x2x48x512 .bf16 :=
  ((Memref.whole (cc0_scratch2 : Ref sig .tc)).access r : View sig .tc _ _ _).write (Elt F) f p Finset.univ

theorem yw_emb (r : Rect S8x2x48x512) (p : r.shape.Idx → Elt F .bf16) (f : Vec F S8x2x48x512 .bf16) (x : r.shape.Idx) : yw r p f (r.emb x) = p x :=
  View.write_emb_of_mem (v := ((Memref.whole (cc0_scratch2 : Ref sig .tc)).access r : View sig .tc _ _ _)) _ _ (Finset.mem_univ x)

theorem yw_off (r : Rect S8x2x48x512) (p : r.shape.Idx → Elt F .bf16) (f : Vec F S8x2x48x512 .bf16) {i : S8x2x48x512.Idx} (h : i ∉ r.set) :
    yw r p f i = f i :=
  View.write_of_not_mem (v := ((Memref.whole (cc0_scratch2 : Ref sig .tc)).access r : View sig .tc _ _ _)) _ _ _
    (by rw [View.setOn_univ]; erw [View.set_slice_whole]; exact h)

theorem yw_congr (r : Rect S8x2x48x512) (p : r.shape.Idx → Elt F .bf16) (f g : Vec F S8x2x48x512 .bf16) {i : S8x2x48x512.Idx}
    (h : i ∉ r.set → f i = g i) : yw r p f i = yw r p g i := by
  by_cases hi : i ∈ r.set
  · rw [← Rect.map_emb_univ] at hi
    obtain ⟨x, -, rfl⟩ := Finset.mem_map.mp hi
    rw [yw_emb, yw_emb]
  · rw [yw_off _ _ _ hi, yw_off _ _ _ hi, h hi]

/-! ## The rectangles -/

abbrev rX : Rect S8x2x48x512 := Rect.unit (s := S8x2x48x512) ![0, 0, 0, 0] S1x2x48x512.size inb_S8x2x48x512_S1x2x48x512_0_0_0_0
abbrev rX1 : Rect S8x2x48x512 := Rect.unit (s := S8x2x48x512) ![1, 0, 0, 0] S2x2x48x512.size inb_S8x2x48x512_S2x2x48x512_1_0_0_0
abbrev rX3 : Rect S8x2x48x512 := Rect.unit (s := S8x2x48x512) ![3, 0, 0, 0] S2x2x48x512.size inb_S8x2x48x512_S2x2x48x512_3_0_0_0
abbrev rX5 : Rect S8x2x48x512 := Rect.unit (s := S8x2x48x512) ![5, 0, 0, 0] S3x2x48x512.size inb_S8x2x48x512_S3x2x48x512_5_0_0_0
abbrev r00 : Rect S8x2x48x512 := Rect.unit (s := S8x2x48x512) ![0, 0, 0, 0] S1x1x48x512.size inb_S8x2x48x512_S1x1x48x512_0_0_0_0
abbrev r01 : Rect S8x2x48x512 := Rect.unit (s := S8x2x48x512) ![0, 1, 0, 0] S1x1x48x512.size inb_S8x2x48x512_S1x1x48x512_0_1_0_0
abbrev r10 : Rect S8x2x48x512 := Rect.unit (s := S8x2x48x512) ![1, 0, 0, 0] S2x1x48x512.size inb_S8x2x48x512_S2x1x48x512_1_0_0_0
abbrev r11 : Rect S8x2x48x512 := Rect.unit (s := S8x2x48x512) ![1, 1, 0, 0] S2x1x48x512.size inb_S8x2x48x512_S2x1x48x512_1_1_0_0
abbrev r30 : Rect S8x2x48x512 := Rect.unit (s := S8x2x48x512) ![3, 0, 0, 0] S2x1x48x512.size inb_S8x2x48x512_S2x1x48x512_3_0_0_0
abbrev r31 : Rect S8x2x48x512 := Rect.unit (s := S8x2x48x512) ![3, 1, 0, 0] S2x1x48x512.size inb_S8x2x48x512_S2x1x48x512_3_1_0_0
abbrev r50 : Rect S8x2x48x512 := Rect.unit (s := S8x2x48x512) ![5, 0, 0, 0] S3x1x48x512.size inb_S8x2x48x512_S3x1x48x512_5_0_0_0
abbrev r51 : Rect S8x2x48x512 := Rect.unit (s := S8x2x48x512) ![5, 1, 0, 0] S3x1x48x512.size inb_S8x2x48x512_S3x1x48x512_5_1_0_0

theorem mem_rect {off size : Fin 4 → ℕ} {inb : ∀ a, off a + size a ≤ S8x2x48x512.size a} {i : S8x2x48x512.Idx} :
    i ∈ (Rect.unit (s := S8x2x48x512) off size inb).set ↔
      (off 0 ≤ (i 0).val ∧ (i 0).val < off 0 + size 0) ∧ (off 1 ≤ (i 1).val ∧ (i 1).val < off 1 + size 1)
        ∧ (off 2 ≤ (i 2).val ∧ (i 2).val < off 2 + size 2) ∧ (off 3 ≤ (i 3).val ∧ (i 3).val < off 3 + size 3) := by
  rw [Rect.mem_set_unit]
  constructor
  · intro h; exact ⟨h 0, h 1, h 2, h 3⟩
  · rintro ⟨h0, h1, h2, h3⟩ a
    match a with
    | ⟨0, _⟩ => exact h0
    | ⟨1, _⟩ => exact h1
    | ⟨2, _⟩ => exact h2
    | ⟨3, _⟩ => exact h3

theorem lt0 (i : S8x2x48x512.Idx) : (i 0).val < 8 := (i 0).isLt
theorem lt1 (i : S8x2x48x512.Idx) : (i 1).val < 2 := (i 1).isLt
theorem lt2 (i : S8x2x48x512.Idx) : (i 2).val < 48 := (i 2).isLt
theorem lt3 (i : S8x2x48x512.Idx) : (i 3).val < 512 := (i 3).isLt

/-- A rectangle `lo ≤ · < lo + n` of offsets, one local expert `e`, everything else whole. -/
theorem mem_piece {lo e n : ℕ} {inb : ∀ a, (![lo, e, 0, 0] : Fin 4 → ℕ) a + (![n, 1, 48, 512] : Fin 4 → ℕ) a ≤ S8x2x48x512.size a} {i : S8x2x48x512.Idx} :
    i ∈ (Rect.unit (s := S8x2x48x512) ![lo, e, 0, 0] ![n, 1, 48, 512] inb).set ↔ (lo ≤ (i 0).val ∧ (i 0).val < lo + n) ∧ (i 1).val = e := by
  have h1 := lt1 i; have h2 := lt2 i; have h3 := lt3 i
  rw [mem_rect]
  show (lo ≤ (i 0).val ∧ (i 0).val < lo + n) ∧ (e ≤ (i 1).val ∧ (i 1).val < e + 1) ∧ (0 ≤ (i 2).val ∧ (i 2).val < 0 + 48) ∧ (0 ≤ (i 3).val ∧ (i 3).val < 0 + 512) ↔ _
  omega

/-- A rectangle `lo ≤ · < lo + n` of offsets, everything else whole, is a band. -/
theorem set_band {lo n : ℕ} {inb : ∀ a, (![lo, 0, 0, 0] : Fin 4 → ℕ) a + (![n, 2, 48, 512] : Fin 4 → ℕ) a ≤ S8x2x48x512.size a} :
    (Rect.unit (s := S8x2x48x512) ![lo, 0, 0, 0] ![n, 2, 48, 512] inb).set = band lo (lo + n) := by
  ext i
  have h1 := lt1 i; have h2 := lt2 i; have h3 := lt3 i
  rw [mem_rect, mem_band]
  show (lo ≤ (i 0).val ∧ (i 0).val < lo + n) ∧ (0 ≤ (i 1).val ∧ (i 1).val < 0 + 2) ∧ (0 ≤ (i 2).val ∧ (i 2).val < 0 + 48) ∧ (0 ≤ (i 3).val ∧ (i 3).val < 0 + 512) ↔ _
  omega

theorem band_slot {lo : ℕ} (h : lo < 8) : band lo (lo + 1) = slot ⟨lo, h⟩ := by
  ext i; rw [mem_band, mem_slot]; show _ ↔ (i 0).val = lo; omega

theorem piece_sub_band {lo e n : ℕ} {inb : ∀ a, (![lo, e, 0, 0] : Fin 4 → ℕ) a + (![n, 1, 48, 512] : Fin 4 → ℕ) a ≤ S8x2x48x512.size a} :
    (Rect.unit (s := S8x2x48x512) ![lo, e, 0, 0] ![n, 1, 48, 512] inb).set ⊆ band lo (lo + n) :=
  fun _ hi => mem_band.mpr (mem_piece.mp hi).1

/-! ## The contents -/

section
variable (I : Ins F) (c : Dev nD)

/-- The device's position on the mesh, as the kernel computes it. -/
abbrev pos : BitVec 32 := Scalar.remsi (Scalar.divsi (Dev.word c) 1#32) 8#32

/-- The expert ids as the kernel reads them. -/
abbrev aRow : IVec S1x512 32 := k0_pay1 (F := F) (rd (Rect.unit (s := S512) ![0] S512.size inb_S512_S512_0) (I.a c))
/-- The tokens as the kernel reads them. -/
abbrev xBlk : Vec F S512x512 .f32 := rd (Rect.unit (s := S512x512) ![0, 0] S512x512.size inb_S512x512_S512x512_0_0) (I.x c)
abbrev W1a : Vec F S1x512x1024 .f32 := rd (Rect.unit (s := S2x512x1024) ![0, 0, 0] S1x512x1024.size inb_S2x512x1024_S1x512x1024_0_0_0) (I.w1 c)
abbrev W1b : Vec F S1x512x1024 .f32 := rd (Rect.unit (s := S2x512x1024) ![1, 0, 0] S1x512x1024.size inb_S2x512x1024_S1x512x1024_1_0_0) (I.w1 c)
abbrev W2a : Vec F S1x1024x512 .f32 := rd (Rect.unit (s := S2x1024x512) ![0, 0, 0] S1x1024x512.size inb_S2x1024x512_S1x1024x512_0_0_0) (I.w2 c)
abbrev W2b : Vec F S1x1024x512 .f32 := rd (Rect.unit (s := S2x1024x512) ![1, 0, 0] S1x1024x512.size inb_S2x1024x512_S1x1024x512_1_0_0) (I.w2 c)

/-- The dispatch matrix. -/
abbrev P : FVec F S768x512 .f32 := k0_pay2 (pos c) (aRow I c) 1#32
/-- The rows device `c` sends out. -/
def Xs : Vec F S8x2x48x512 .bf16 := k0_pay4 (k0_pay3 (pos c) (aRow I c) 1#32 (xBlk I c))
/-- The rows device `c` receives: slot `o` from the device `o` places before. -/
def Xr : Vec F S8x2x48x512 .bf16 := fun i => Xs I (dn (i 0) c) i

abbrev p00 : FVec F S1x1x48x512 .bf16 := k0_pay7 (rd rX (Xr I c)) (W1a I c) (W2a I c)
abbrev p01 : FVec F S1x1x48x512 .bf16 := k0_pay9 (k0_pay8 (rd rX (Xr I c)) (W1b I c)) (W2b I c)
abbrev p10 : FVec F S2x1x48x512 .bf16 := k0_pay11 (rd rX1 (Xr I c)) (W1a I c) (W2a I c)
abbrev p11 : FVec F S2x1x48x512 .bf16 := k0_pay13 (k0_pay12 (rd rX1 (Xr I c)) (W1b I c)) (W2b I c)
abbrev p30 : FVec F S2x1x48x512 .bf16 := k0_pay14 (rd rX3 (Xr I c)) (W1a I c) (W2a I c)
abbrev p31 : FVec F S2x1x48x512 .bf16 := k0_pay16 (k0_pay15 (rd rX3 (Xr I c))) (W1b I c) (W2b I c)
abbrev p50 : FVec F S3x1x48x512 .bf16 := k0_pay18 (k0_pay17 (rd rX5 (Xr I c))) (W1a I c) (W2a I c)
abbrev p51 : FVec F S3x1x48x512 .bf16 := k0_pay19 (rd rX5 (Xr I c)) (W1b I c) (W2b I c)

/-- The results device `c` computes: eight stores, covering the whole buffer. -/
def Ys : Vec F S8x2x48x512 .bf16 :=
  yw r51 (p51 I c) (yw r50 (p50 I c) (yw r31 (p31 I c) (yw r30 (p30 I c) (yw r11 (p11 I c) (yw r10 (p10 I c) (yw r01 (p01 I c) (yw r00 (p00 I c) (Xs I c))))))))
/-- The results device `c` receives: slot `o` from the device `o` places after. -/
def Yr : Vec F S8x2x48x512 .bf16 := fun i => Ys I (up (i 0) c) i

/-- The block device `c` writes back. -/
def outAt : FVec F S512x512 .f32 :=
  k0_pay23 (P I c) (k0_pay22 (P I c) (k0_pay20 (P I c) (rd rX (Yr I c))) (k0_pay21 (P I c)) (rd rX1 (Yr I c)) (rd rX3 (Yr I c))) (rd rX5 (Yr I c))

/-! ## A band of results after its two stores -/

theorem ys_band0 (f : Vec F S8x2x48x512 .bf16) {i : S8x2x48x512.Idx} (h : i ∈ band 0 1) : yw r01 (p01 I c) (yw r00 (p00 I c) f) i = Ys I c i := by
  have h' := mem_band.mp h; have h1 := lt1 i
  unfold Ys
  rw [yw_off r51 _ _ (by rw [mem_piece]; omega), yw_off r50 _ _ (by rw [mem_piece]; omega), yw_off r31 _ _ (by rw [mem_piece]; omega),
    yw_off r30 _ _ (by rw [mem_piece]; omega), yw_off r11 _ _ (by rw [mem_piece]; omega), yw_off r10 _ _ (by rw [mem_piece]; omega)]
  exact yw_congr _ _ _ _ fun n1 => yw_congr _ _ _ _ fun n0 => by rw [mem_piece] at n0 n1; omega

theorem ys_band1 (f : Vec F S8x2x48x512 .bf16) {i : S8x2x48x512.Idx} (h : i ∈ band 1 3) : yw r11 (p11 I c) (yw r10 (p10 I c) f) i = Ys I c i := by
  have h' := mem_band.mp h; have h1 := lt1 i
  unfold Ys
  rw [yw_off r51 _ _ (by rw [mem_piece]; omega), yw_off r50 _ _ (by rw [mem_piece]; omega), yw_off r31 _ _ (by rw [mem_piece]; omega),
    yw_off r30 _ _ (by rw [mem_piece]; omega)]
  exact yw_congr _ _ _ _ fun n1 => yw_congr _ _ _ _ fun n0 => by rw [mem_piece] at n0 n1; omega

theorem ys_band3 (f : Vec F S8x2x48x512 .bf16) {i : S8x2x48x512.Idx} (h : i ∈ band 3 5) : yw r31 (p31 I c) (yw r30 (p30 I c) f) i = Ys I c i := by
  have h' := mem_band.mp h; have h1 := lt1 i
  unfold Ys
  rw [yw_off r51 _ _ (by rw [mem_piece]; omega), yw_off r50 _ _ (by rw [mem_piece]; omega)]
  exact yw_congr _ _ _ _ fun n1 => yw_congr _ _ _ _ fun n0 => by rw [mem_piece] at n0 n1; omega

theorem ys_band5 (f : Vec F S8x2x48x512 .bf16) {i : S8x2x48x512.Idx} (h : i ∈ band 5 8) : yw r51 (p51 I c) (yw r50 (p50 I c) f) i = Ys I c i := by
  have h' := mem_band.mp h; have h1 := lt1 i
  exact yw_congr _ _ _ _ fun n1 => yw_congr _ _ _ _ fun n0 => by rw [mem_piece] at n0 n1; omega

/-! ## A device's own slot -/

theorem pay65 (v : Vec F S1x2x48x512 .bf16) : k0_pay6 (k0_pay5 v) = v := by
  unfold k0_pay6 k0_pay5; exact shapeCast_shapeCast v _ _
theorem pay10_id (v : Vec F S1x2x48x512 .bf16) : k0_pay10 v = v := by
  unfold k0_pay10; exact shapeCast_shapeCast v _ _

/-- Storing what was read of `g`'s first slot leaves `g` there. -/
theorem own_slot (f g : Vec F S8x2x48x512 .bf16) {i : S8x2x48x512.Idx} (h : i ∈ slot 0) : yw rX (rd rX g) f i = g i := by
  have hi : i ∈ rX.set := by rw [set_band, mem_band]; have := mem_slot.mp h; rw [this]; decide
  rw [← Rect.map_emb_univ] at hi
  obtain ⟨x, -, rfl⟩ := Finset.mem_map.mp hi
  rw [yw_emb]; rfl

theorem xr_slot {o : Fin 8} {i : S8x2x48x512.Idx} (h : i ∈ slot o) : Xr I c i = Xs I (dn o c) i := by
  have : (i 0 : Fin 8) = o := Fin.ext (mem_slot.mp h)
  show Xs I (dn (i 0 : Fin 8) c) i = _; rw [this]
theorem yr_slot {o : Fin 8} {i : S8x2x48x512.Idx} (h : i ∈ slot o) : Yr I c i = Ys I (up o c) i := by
  have : (i 0 : Fin 8) = o := Fin.ext (mem_slot.mp h)
  show Ys I (up (i 0 : Fin 8) c) i = _; rw [this]

theorem own_xr (f : Vec F S8x2x48x512 .bf16) {i : S8x2x48x512.Idx} (h : i ∈ slot 0) : yw rX (k0_pay6 (k0_pay5 (rd rX (Xs I c)))) f i = Xr I c i := by
  rw [pay65, own_slot f _ h, xr_slot I c h, dn_zero]
theorem own_yr (f : Vec F S8x2x48x512 .bf16) {i : S8x2x48x512.Idx} (h : i ∈ slot 0) : yw rX (k0_pay10 (rd rX (Ys I c))) f i = Yr I c i := by
  rw [pay10_id, own_slot f _ h, yr_slot I c h, up_zero]

end

/-! ## The buffer by slots -/

theorem slot_disj {o o' : Fin 8} (h : o ≠ o') : Disjoint (slot o) (slot o') :=
  Finset.disjoint_left.mpr fun i hi hi' => h (Fin.ext ((mem_slot.mp hi).symm.trans (mem_slot.mp hi')))
theorem univ_slots : (Finset.univ : Finset S8x2x48x512.Idx) = (Finset.univ : Finset (Fin 8)).biUnion slot := by
  ext i
  constructor
  · intro _; exact Finset.mem_biUnion.mpr ⟨(i 0 : Fin 8), Finset.mem_univ _, mem_slot.mpr rfl⟩
  · intro _; exact Finset.mem_univ _
/-- The offsets of a band. -/
def offsIn (lo hi : ℕ) : Finset (Fin 8) := Finset.univ.filter fun o => lo ≤ o.val ∧ o.val < hi
theorem band_slots (lo hi : ℕ) : band lo hi = (offsIn lo hi).biUnion slot := by
  ext i
  rw [mem_band, Finset.mem_biUnion]
  constructor
  · intro h; exact ⟨(i 0 : Fin 8), Finset.mem_filter.mpr ⟨Finset.mem_univ _, h⟩, mem_slot.mpr rfl⟩
  · rintro ⟨o, ho, hi⟩; rw [mem_slot] at hi; rw [hi]; exact (Finset.mem_filter.mp ho).2
theorem univ_band : (Finset.univ : Finset S8x2x48x512.Idx) = band 0 8 := by
  ext i; rw [mem_band]; exact ⟨fun _ => ⟨Nat.zero_le _, lt0 i⟩, fun _ => Finset.mem_univ _⟩
theorem band_union {a b d : ℕ} (h : a ≤ b) (h' : b ≤ d) : band a d = band a b ∪ band b d := by
  ext i; rw [Finset.mem_union, mem_band, mem_band, mem_band]; omega
theorem band_disj (a b d : ℕ) : Disjoint (band a b) (band b d) :=
  Finset.disjoint_left.mpr fun i hi hi' => by rw [mem_band] at hi hi'; omega

end Cert.KernelIdeal.Moe

end
-- ==== Proof.Sched.lean ====
/-
The schedule of the exchange: which payments each cell expects, in one round, and what each payment hands its owner.
-/
module

public import proofs.«01_k».proof.Proof.Contents

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots as views -/

/-- The slot at offset `m` of a scratch buffer, as the kernel names it. -/
abbrev sv (M : Memref sig .tc .vmem S8x2x48x512 .bf16) (m : ℕ) (inb : ∀ a, (![m, 0, 0, 0] : Fin 4 → ℕ) a + S1x2x48x512.size a ≤ S8x2x48x512.size a) :
    Memref sig .tc .vmem S2x48x512 .bf16 :=
  (M.slice (Rect.unit (s := S8x2x48x512) ![m, 0, 0, 0] S1x2x48x512.size inb) (fun _ => rfl)).squeeze S2x48x512 squeezes_S1x2x48x512_S2x48x512

abbrev M0 : Memref sig .tc .vmem S8x2x48x512 .bf16 := Memref.whole cc0_scratch0
abbrev M1 : Memref sig .tc .vmem S8x2x48x512 .bf16 := Memref.whole cc0_scratch1
abbrev M2 : Memref sig .tc .vmem S8x2x48x512 .bf16 := Memref.whole cc0_scratch2
abbrev M3 : Memref sig .tc .vmem S8x2x48x512 .bf16 := Memref.whole cc0_scratch3

section
variable {m : ℕ} {inb : ∀ a, (![m, 0, 0, 0] : Fin 4 → ℕ) a + S1x2x48x512.size a ≤ S8x2x48x512.size a} {o : Fin 8}

theorem rect_slot (hm : m = o.val) : (Rect.unit (s := S8x2x48x512) ![m, 0, 0, 0] S1x2x48x512.size inb).set = slot o := by
  subst hm; exact set_band.trans (band_slot o.isLt)

theorem set_sv0 (hm : m = o.val) : (sv M0 m inb).view.set = slot o :=
  (View.set_reshape _ _).trans ((View.set_slice_whole _ _).trans (rect_slot hm))
theorem set_sv1 (hm : m = o.val) : (sv M1 m inb).view.set = slot o :=
  (View.set_reshape _ _).trans ((View.set_slice_whole _ _).trans (rect_slot hm))
theorem set_sv2 (hm : m = o.val) : (sv M2 m inb).view.set = slot o :=
  (View.set_reshape _ _).trans ((View.set_slice_whole _ _).trans (rect_slot hm))
theorem set_sv3 (hm : m = o.val) : (sv M3 m inb).view.set = slot o :=
  (View.set_reshape _ _).trans ((View.set_slice_whole _ _).trans (rect_slot hm))

/-- A row slot copied over the wire arrives as it left. -/
theorem land_x (fd fs : Vec F S8x2x48x512 .bf16) (hm : m = o.val) {i : S8x2x48x512.Idx} (h : i ∈ slot o) :
    (sv M1 m inb).view.write (Elt F) fd ((sv M0 m inb).view.read (Elt F) fs) Finset.univ i = fs i := by
  rw [← set_sv1 (inb := inb) hm] at h
  obtain ⟨x, -, rfl⟩ := Finset.mem_map.mp h
  rw [View.write_emb_of_mem _ _ (Finset.mem_univ x)]; rfl
/-- A result slot copied over the wire arrives as it left. -/
theorem land_y (fd fs : Vec F S8x2x48x512 .bf16) (hm : m = o.val) {i : S8x2x48x512.Idx} (h : i ∈ slot o) :
    (sv M3 m inb).view.write (Elt F) fd ((sv M2 m inb).view.read (Elt F) fs) Finset.univ i = fs i := by
  rw [← set_sv3 (inb := inb) hm] at h
  obtain ⟨x, -, rfl⟩ := Finset.mem_map.mp h
  rw [View.write_emb_of_mem _ _ (Finset.mem_univ x)]; rfl

theorem credit0 : (sv M0 m inb).view.dmaCredit = N := rfl
theorem credit1 : (sv M1 m inb).view.dmaCredit = N := rfl
theorem credit2 : (sv M2 m inb).view.dmaCredit = N := rfl
theorem credit3 : (sv M3 m inb).view.dmaCredit = N := rfl
end

/-! ## The schedule -/

/-- What device `c` is handed by its neighbour `dn o c` on its barrier: two of the neighbour's receive slots. -/
def barPay (c : Dev nD) (o : Fin 8) : sProp 𝕄 := iprop((∃ f, xi (F := F) (dn o c) (slot (-o)) f) ∗ (∃ f, yi (F := F) (dn o c) (slot o) f))

/-- The offset a DMA semaphore is for. -/
def offOf (q : DmaSem sig) : Fin 8 := ⟨(q.val - 5) % 8, Nat.mod_lt _ (by decide)⟩

/-- What a completed transfer hands the owner of the semaphore: its own slot back, or the slot filled by its peer. -/
def dmaPay (I : Ins F) (c : Dev nD) (q : DmaSem sig) : sProp 𝕄 :=
  if q.val < 13 then xo c (slot (offOf q)) (Xs I c) else if q.val < 21 then xi c (slot (offOf q)) (Xr I c)
  else if q.val < 29 then yo c (slot (offOf q)) (Ys I c) else yi c (slot (offOf q)) (Yr I c)

/-- The duties of round 0: seven peers at either barrier, the one transfer of an offset that reaches another device. -/
def dutS : SemLoc sig → Finset (Fin 8)
  | .reg _ => Finset.univ.erase 0
  | .dma q => if 5 ≤ q.val ∧ offOf q ≠ 0 then {0} else ∅

def Rd (I : Ins F) : Rounds.Schedule (GSem nD τ sig) (Fin 8) 𝕄 where
  duties g r := if r = 0 then dutS g.2 else ∅
  unitless _ := False
  amount g _ _ := match g.2 with
    | .reg _ => 1
    | .dma _ => N
  payload g _ o := match g.2 with
    | .reg q => if q = barS then barPay g.1.1 o else iprop(emp)
    | .dma q => dmaPay I g.1.1 q
  amount_pos g _ _ _ := by
    obtain ⟨t, s⟩ := g
    cases s
    · exact Nat.one_pos
    · exact N_pos

instance Rd_storable (I : Ins F) (g : GSem nD τ sig) (r : ℕ) (o : Fin 8) : BI.Storable (upEmb : UEmb _ 𝕄) ((Rd I).payload g r o) := by
  obtain ⟨t, s⟩ := g
  cases s with
  | reg q =>
    show BI.Storable upEmb (if q = barS then barPay t.1 o else iprop(emp))
    unfold barPay; split <;> infer_instance
  | dma q =>
    show BI.Storable upEmb (dmaPay I t.1 q)
    unfold dmaPay; (repeat' split) <;> infer_instance

section
variable (I : Ins F) (c : Dev nD) (o : Fin 8)

theorem offOf_dS : ∀ (j : Fin 4) (o : Fin 8), offOf (dS j o) = o := by decide +kernel
theorem end_ne_bar : endS ≠ barS := by decide

theorem duties_bar : (Rd I).duties (barC c) 0 = Finset.univ.erase 0 := rfl
theorem duties_end : (Rd I).duties (endC c) 0 = Finset.univ.erase 0 := rfl
theorem duties_dma (j : Fin 4) (h : o ≠ 0) : (Rd I).duties (dC j o c) 0 = {0} := by
  show (if 5 ≤ (dS j o).val ∧ offOf (dS j o) ≠ 0 then ({0} : Finset (Fin 8)) else ∅) = {0}
  rw [offOf_dS]; exact if_pos ⟨by show 5 ≤ 5 + 8 * j.val + o.val; omega, h⟩
theorem duties_own (j : Fin 4) (r : ℕ) : (Rd I).duties (dC j 0 c) r = ∅ := by
  show (if r = 0 then (if 5 ≤ (dS j 0).val ∧ offOf (dS j 0) ≠ 0 then ({0} : Finset (Fin 8)) else ∅) else ∅) = ∅
  rw [offOf_dS]; split
  · exact if_neg fun h => h.2 rfl
  · rfl
theorem duties_later (g : GSem nD τ sig) {r : ℕ} (h : 1 ≤ r) : (Rd I).duties g r = ∅ := if_neg (by omega)

theorem expect_bar : (Rd I).expect (barC c) 0 = 7 := by
  unfold Schedule.expect Schedule.amountOf
  rw [duties_bar]; show ∑ d ∈ (Finset.univ.erase 0 : Finset (Fin 8)), 1 = 7; decide
theorem expect_end : (Rd I).expect (endC c) 0 = 7 := by
  unfold Schedule.expect Schedule.amountOf
  rw [duties_end]; show ∑ d ∈ (Finset.univ.erase 0 : Finset (Fin 8)), 1 = 7; decide
theorem expect_dma (j : Fin 4) (h : o ≠ 0) : (Rd I).expect (dC j o c) 0 = N := by
  unfold Schedule.expect Schedule.amountOf
  rw [duties_dma I c o j h, Finset.sum_singleton]; rfl

theorem payload_bar : (Rd I).payload (barC c) 0 o = barPay c o := by
  show (if barS = barS then barPay c o else iprop(emp)) = _; exact if_pos rfl
theorem payload_end : (Rd I).payload (endC c) 0 o = iprop(emp) := by
  show (if endS = barS then barPay c o else iprop(emp)) = _; exact if_neg end_ne_bar
theorem payload_dma (j : Fin 4) (d : Fin 8) : (Rd I).payload (dC j o c) 0 d = dmaPay I c (dS j o) := rfl

theorem dmaPay0 : dmaPay I c (dS 0 o) = xo c (slot o) (Xs I c) := by
  unfold dmaPay; rw [offOf_dS]; exact if_pos (by show 5 + 8 * 0 + o.val < 13; omega)
theorem dmaPay1 : dmaPay I c (dS 1 o) = xi c (slot o) (Xr I c) := by
  unfold dmaPay; rw [offOf_dS, if_neg (by show ¬ 5 + 8 * 1 + o.val < 13; omega)]; exact if_pos (by show 5 + 8 * 1 + o.val < 21; omega)
theorem dmaPay2 : dmaPay I c (dS 2 o) = yo c (slot o) (Ys I c) := by
  unfold dmaPay; rw [offOf_dS, if_neg (by show ¬ 5 + 8 * 2 + o.val < 13; omega), if_neg (by show ¬ 5 + 8 * 2 + o.val < 21; omega)]
  exact if_pos (by show 5 + 8 * 2 + o.val < 29; omega)
theorem dmaPay3 : dmaPay I c (dS 3 o) = yi c (slot o) (Yr I c) := by
  unfold dmaPay; rw [offOf_dS, if_neg (by show ¬ 5 + 8 * 3 + o.val < 13; omega), if_neg (by show ¬ 5 + 8 * 3 + o.val < 21; omega)]
  exact if_neg (by show ¬ 5 + 8 * 3 + o.val < 29; omega)

end

/-! ## Points-to of bands and slots -/

section
variable {b : Ref sig .tc} (c : Dev nD)

/-- Whole contents may be swapped for others agreeing on the elements held. -/
theorem pts_congr {ℓ : Loc nD τ sig} {S : Finset (Idx ℓ)} {f g : Buf (Elt F) ℓ} (h : ∀ i ∈ S, f i = g i) :
    (ℓ ↦[S]{fullShare} f : sProp 𝕄) ⊢ ℓ ↦[S]{fullShare} g := Entails.of_eq (pointsTo_congr h)

end

end Cert.KernelIdeal.Moe

end
-- ==== Proof.Steps.lean ====
/-
One lemma per kind of exchange operation: raising a peer's barrier, waiting on a barrier, sending a slot, waiting for a
transfer. Each is stated once, for every offset.
-/
module

public import proofs.«01_k».proof.Proof.Sched

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of device `c`'s body. -/
abbrev wpB {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every device may use at any time -/

/-- Every cell's invariant, that every cell has reached round 0, and the levels. -/
def recs (I : Ins F) (K : Dev nD × Fin 34 → ℕ) : sProp 𝕄 :=
  iprop((bigSep Finset.univ fun ck : Dev nD × Fin 34 => cellInv ER (Rd I) (K ck) (kC ck))
    ∗ (bigSep Finset.univ fun ck : Dev nD × Fin 34 => reached ER (kC ck) 0) ∗ levAts L lv)

instance recs_persistent (I : Ins F) (K : Dev nD × Fin 34 → ℕ) : BI.Persistent (recs I K) := by unfold recs; infer_instance

section
variable (I : Ins F) (K : Dev nD × Fin 34 → ℕ)

theorem all_inv (ck : Dev nD × Fin 34) :
    (bigSep Finset.univ fun ck : Dev nD × Fin 34 => (cellInv ER (Rd I) (K ck) (kC ck) : sProp 𝕄)) ⊢ cellInv ER (Rd I) (K ck) (kC ck) :=
  bigSep_elim (Finset.mem_univ ck)
theorem all_reached (ck : Dev nD × Fin 34) :
    (bigSep Finset.univ fun ck : Dev nD × Fin 34 => (reached ER (kC ck) 0 : sProp 𝕄)) ⊢ reached ER (kC ck) 0 :=
  bigSep_elim (Finset.mem_univ ck)
theorem recs_inv (ck : Dev nD × Fin 34) : recs I K ⊢ cellInv ER (Rd I) (K ck) (kC ck) := by
  unfold recs; iintro ⟨H, -, -⟩
  iapply (all_inv I K ck); iexact H
theorem recs_reached (ck : Dev nD × Fin 34) : recs I K ⊢ reached ER (kC ck) 0 := by
  unfold recs; iintro ⟨-, H, -⟩
  iapply (all_reached (F := F) ck); iexact H
theorem recs_lev : recs I K ⊢ (levAts L lv : sProp 𝕄) := by
  unfold recs; iintro ⟨-, -, H⟩; iexact H

theorem kC_dma (c : Dev nD) (j : Fin 4) (o : Fin 8) : kC (c, dK j o) = dC j o c := by unfold kC; rw [csem_dma]

theorem inv_bar (c : Dev nD) : recs I K ⊢ cellInv ER (Rd I) (K (c, 0)) (barC c) := recs_inv I K (c, 0)
theorem inv_end (c : Dev nD) : recs I K ⊢ cellInv ER (Rd I) (K (c, 1)) (endC c) := recs_inv I K (c, 1)
theorem inv_dma (c : Dev nD) (j : Fin 4) (o : Fin 8) : recs I K ⊢ cellInv ER (Rd I) (K (c, dK j o)) (dC j o c) := by
  have h := recs_inv I K (c, dK j o); rwa [kC_dma] at h
theorem rea_bar (c : Dev nD) : recs I K ⊢ reached ER (barC c) 0 := recs_reached I K (c, 0)
theorem rea_end (c : Dev nD) : recs I K ⊢ reached ER (endC c) 0 := recs_reached I K (c, 1)
theorem rea_dma (c : Dev nD) (j : Fin 4) (o : Fin 8) : recs I K ⊢ reached ER (dC j o c) 0 := by
  have h := recs_reached I K (c, dK j o); rwa [kC_dma] at h

end

/-! ## What a device owes, whatever it has waited on -/

def OW (c : Dev nD) (k : ℕ) : sProp 𝕄 := iprop(∃ W : Waits sig Unit, owes (c : Thread nD τ) (due c k) W)

theorem due_bar (c : Dev nD) : ∀ o : Fin 8, o ≠ 0 → (dues c)[o.val - 1]? = some (barC (up o c), 1) := by
  intro o h; fin_cases o <;> first | exact absurd rfl h | rfl
theorem due_x (c : Dev nD) : ∀ o : Fin 8, o ≠ 0 → (dues c)[6 + o.val]? = some (dC 1 o (up o c), N) := by
  intro o h; fin_cases o <;> first | exact absurd rfl h | rfl
theorem due_y (c : Dev nD) : ∀ o : Fin 8, o ≠ 0 → (dues c)[13 + o.val]? = some (dC 3 o (dn o c), N) := by
  intro o h; fin_cases o <;> first | exact absurd rfl h | rfl
theorem due_fin (c : Dev nD) : ∀ o : Fin 8, o ≠ 0 → (dues c)[20 + o.val]? = some (endC (up o c), 1) := by
  intro o h; fin_cases o <;> first | exact absurd rfl h | rfl

section Steps
variable (I : Ins F) (K : Dev nD × Fin 34 → ℕ) (c : Dev nD)

/-- Raising the barrier of the device `o` places on, handing it two of this device's receive slots. -/
theorem step_bar {α : Type} {Q : α → sProp 𝕄} {k : PUnit.{1} → Prog (TpuEff nD τ sig (Elt F) Λ₀ .tc) α} (o : Fin 8) (ho : o ≠ 0) (n : ℕ) (hn : n = o.val - 1) (t : Dev nD) (ht : t = up o c) (s : Sem sig) (hs : s = barS) (u : ℤ) (hu : u = ((1 : ℕ) : ℤ)) :
    iprop(recs I K ∗ OW (F := F) c n ∗ dutyTok ER (barC (up o c)) 0 o ∗ (∃ f, xi (F := F) c (slot (-o)) f) ∗ (∃ f, yi (F := F) c (slot o) f))
      ⊢ iprop((OW (F := F) c (n + 1) -∗ wpB (F := F) c (k ⟨⟩) Q) -∗ wpB (F := F) c (.op (.semSignal (t : Thread nD τ) s u) k) Q) := by
  subst hn ht hs hu
  unfold OW
  iintro ⟨#HR, ⟨%W, HO⟩, Ht, Hx, Hy⟩ Hk
  iapply (Rounds.wp_signal 𝒱₀ ER (Rd I) (c : Thread nD τ) none (dst := (up o c : Thread nD τ)) (κ := K (up o c, 0)) (d := o) (r := 0)
      (by rw [duties_bar]; exact Finset.mem_erase.mpr ⟨ho, Finset.mem_univ _⟩) rfl () (due c (o.val - 1 + 1)) (due_step c _ (due_bar c o ho)))
    $$ [HO Ht Hx Hy]
  · isplitr; · iapply (inv_bar I K (up o c)); iexact HR
    isplitl [HO]; · iexact HO
    isplitl [Ht]; · iexact Ht
    isplitl [Hx Hy]
    · rw [payload_bar]; unfold barPay; rw [dn_up]
      isplitl [Hx]; · iexact Hx
      iexact Hy
    iapply (rea_bar I K (up o c)); iexact HR
  iintro HO
  iapply Hk
  iexists W; iexact HO

/-- Raising the closing barrier of the device `o` places on. -/
theorem step_end {α : Type} {Q : α → sProp 𝕄} {k : PUnit.{1} → Prog (TpuEff nD τ sig (Elt F) Λ₀ .tc) α} (o : Fin 8) (ho : o ≠ 0) (n : ℕ) (hn : n = 20 + o.val) (t : Dev nD) (ht : t = up o c) (s : Sem sig) (hs : s = endS) (u : ℤ) (hu : u = ((1 : ℕ) : ℤ)) :
    iprop(recs I K ∗ OW (F := F) c n ∗ dutyTok ER (endC (up o c)) 0 o)
      ⊢ iprop((OW (F := F) c (n + 1) -∗ wpB (F := F) c (k ⟨⟩) Q) -∗ wpB (F := F) c (.op (.semSignal (t : Thread nD τ) s u) k) Q) := by
  subst hn ht hs hu
  unfold OW
  iintro ⟨#HR, ⟨%W, HO⟩, Ht⟩ Hk
  iapply (Rounds.wp_signal 𝒱₀ ER (Rd I) (c : Thread nD τ) none (dst := (up o c : Thread nD τ)) (κ := K (up o c, 1)) (d := o) (r := 0)
      (by rw [duties_end]; exact Finset.mem_erase.mpr ⟨ho, Finset.mem_univ _⟩) rfl () (due c (20 + o.val + 1)) (due_step c _ (due_fin c o ho)))
    $$ [HO Ht]
  · isplitr; · iapply (inv_end I K (up o c)); iexact HR
    isplitl [HO]; · iexact HO
    isplitl [Ht]; · iexact Ht
    isplitr; · rw [payload_end]; iempintro
    iapply (rea_end I K (up o c)); iexact HR
  iintro HO
  iapply Hk
  iexists W; iexact HO

/-- Waiting for the seven peers on the barrier: their slots come with it, and the cell closes. -/
theorem step_barWait {α : Type} {Q : α → sProp 𝕄} {k : PUnit.{1} → Prog (TpuEff nD τ sig (Elt F) Λ₀ .tc) α} (s : Sem sig) (hs : s = barS) (u : ℤ) (hu : u = ((7 : ℕ) : ℤ)) :
    iprop(recs I K ∗ OW (F := F) c 7 ∗ cred (tallyAt (barC c) () 7) ∗ atPos ER (barC c) 0 ∅ 0)
      ⊢ iprop(((OW (F := F) c 7 ∗ semVal (barC c) 0 ∗ bigSep (Finset.univ.erase 0) (fun o => barPay (F := F) c o)) -∗ wpB (F := F) c (k ⟨⟩) Q)
        -∗ wpB (F := F) c (.op (.semWait s u) k) Q) := by
  subst hs hu
  unfold OW
  iintro ⟨#HR, ⟨%W, HO⟩, Hc, Ha⟩ Hk
  iapply (Rounds.wp_wait_rest_token 𝒱₀ ER (Rd I) (c : Thread nD τ) none (κ := K (c, 0))
      (wpE_semWait_eq 𝒱₀ (c : Thread nD τ) none Set.univ) (Set.mem_univ _) () (O := due c 7) (W := W) (R := 0) (m := 0) (T := ∅)
      (by rw [expect_bar])) $$ [HO Hc Ha]
  · isplitr; · iapply (inv_bar I K c); iexact HR
    isplitl [Hc]; · iexact Hc
    isplitl [HO]; · iexact HO
    isplitr
    · iapply (mayWait c (.reg barS) 7 (by decide)); iapply (recs_lev I K); iexact HR
    iexact Ha
  iintro ⟨HO, Ha, -, Hp⟩
  imod (Rounds.cell_close ER (Rd I) (Set.mem_univ (K (c, 0))) (fun h => h) (R := 0 + 1) (fun r hr => duties_later I (barC c) hr)) $$ [Ha] with Hz
  · isplitr; · iapply (inv_bar I K c); iexact HR
    iexact Ha
  iapply Hk
  isplitl [HO]; · iexists _; iexact HO
  isplitl [Hz]; · iexact Hz
  rw [Finset.sdiff_empty, duties_bar]
  iapply (Entails.of_eq (bigSep_congr fun o _ => payload_bar I c o)); iexact Hp

/-- Waiting for the seven peers on the closing barrier. -/
theorem step_endWait {α : Type} {Q : α → sProp 𝕄} {k : PUnit.{1} → Prog (TpuEff nD τ sig (Elt F) Λ₀ .tc) α} (s : Sem sig) (hs : s = endS) (u : ℤ) (hu : u = ((7 : ℕ) : ℤ)) :
    iprop(recs I K ∗ OW (F := F) c 28 ∗ cred (tallyAt (endC c) () 7) ∗ atPos ER (endC c) 0 ∅ 0)
      ⊢ iprop(((OW (F := F) c 28 ∗ semVal (endC c) 0) -∗ wpB (F := F) c (k ⟨⟩) Q) -∗ wpB (F := F) c (.op (.semWait s u) k) Q) := by
  subst hs hu
  unfold OW
  iintro ⟨#HR, ⟨%W, HO⟩, Hc, Ha⟩ Hk
  iapply (Rounds.wp_wait_rest_token 𝒱₀ ER (Rd I) (c : Thread nD τ) none (κ := K (c, 1))
      (wpE_semWait_eq 𝒱₀ (c : Thread nD τ) none Set.univ) (Set.mem_univ _) () (O := due c 28) (W := W) (R := 0) (m := 0) (T := ∅)
      (by rw [expect_end])) $$ [HO Hc Ha]
  · isplitr; · iapply (inv_end I K c); iexact HR
    isplitl [Hc]; · iexact Hc
    isplitl [HO]; · iexact HO
    isplitr
    · iapply (mayWait c (.reg endS) 28 (by decide)); iapply (recs_lev I K); iexact HR
    iexact Ha
  iintro ⟨HO, Ha, -, Hp⟩
  imod (Rounds.cell_close ER (Rd I) (Set.mem_univ (K (c, 1))) (fun h => h) (R := 0 + 1) (fun r hr => duties_later I (endC c) hr)) $$ [Ha] with Hz
  · isplitr; · iapply (inv_end I K c); iexact HR
    iexact Ha
  iapply Hk
  isplitl [HO]; · iexists _; iexact HO
  iexact Hz

/-- Waiting for a transfer: what it carried comes with it, and the cell closes. -/
theorem step_wait {α : Type} {Q : α → sProp 𝕄} {k : PUnit.{1} → Prog (TpuEff nD τ sig (Elt F) Λ₀ .tc) α} (j : Fin 4) (o : Fin 8) (ho : o ≠ 0) (n : ℕ) (hl : ∀ ℓ ∈ dueLv.drop n, lvS (.dma (dS j o)) < ℓ)
    {s : DmaSem sig} (hs : s = dS j o) {sp sp' : Space} {sh sh' : Shape} {e e' : EltTy} {src : Memref sig .tc sp' sh' e'} {dst : Memref sig .tc sp sh e}
    {hsrc : src.view.WordExact} {hdst : dst.view.WordExact} (hN : dst.view.dmaCredit = N) :
    iprop(recs I K ∗ OW (F := F) c n ∗ cred (tallyAt (dC j o c) () N) ∗ atPos ER (dC j o c) 0 ∅ 0)
      ⊢ iprop(((OW (F := F) c n ∗ semVal (dC j o c) 0 ∗ dmaPay I c (dS j o)) -∗ wpB (F := F) c (k ⟨⟩) Q)
        -∗ wpB (F := F) c (.op (.waitDma2 s src dst hsrc hdst) k) Q) := by
  subst hs
  unfold OW
  iintro ⟨#HR, ⟨%W, HO⟩, Hc, Ha⟩ Hk
  iapply (Rounds.wp_wait_rest_token 𝒱₀ ER (Rd I) (c : Thread nD τ) none (κ := K (c, dK j o)) (k' := N)
      (fun K' => by rw [← hN]; exact wpE_waitDma2_eq 𝒱₀ (c : Thread nD τ) none Set.univ K') (Set.mem_univ _) () (O := due c n) (W := W) (R := 0) (m := 0) (T := ∅)
      (by rw [Nat.zero_add]; exact (expect_dma I c o j ho).symm)) $$ [HO Hc Ha]
  · isplitr; · iapply (inv_dma I K c j o); iexact HR
    isplitl [Hc]; · iexact Hc
    isplitl [HO]; · iexact HO
    isplitr
    · iapply (mayWait c (.dma (dS j o)) n hl); iapply (recs_lev I K); iexact HR
    iexact Ha
  iintro ⟨HO, Ha, -, Hp⟩
  imod (Rounds.cell_close ER (Rd I) (Set.mem_univ (K (c, dK j o))) (fun h => h) (R := 0 + 1) (fun r hr => duties_later I (dC j o c) hr)) $$ [Ha] with Hz
  · isplitr; · iapply (inv_dma I K c j o); iexact HR
    iexact Ha
  iapply Hk
  isplitl [HO]; · iexists _; iexact HO
  isplitl [Hz]; · iexact Hz
  iapply (Entails.of_eq (show bigSep ((Rd I).duties (dC j o c) 0 \ ∅) (fun d => (Rd I).payload (dC j o c) 0 d) = dmaPay I c (dS j o) by
    rw [Finset.sdiff_empty, duties_dma I c o j ho, bigSep_singleton, payload_dma]))
  iexact Hp

/-- A cell nobody pays closes as it stands. -/
theorem close_own (j : Fin 4) : iprop(recs I K ∗ atPos ER (dC j 0 c) 0 ∅ 0) ⊢ iprop(|={Set.univ}=> semVal (dC j 0 c) 0) := by
  iintro ⟨#HR, Ha⟩
  iapply (Rounds.cell_close ER (Rd I) (Set.mem_univ (K (c, dK j 0))) (fun h => h) (R := 0) (fun r _ => duties_own I c j r))
  isplitr; · iapply (inv_dma I K c j 0); iexact HR
  iexact Ha

/-- Sending the row slot `o` to the device `o` places on. -/
theorem step_sendX {α : Type} {Q : α → sProp 𝕄} {k : PUnit.{1} → Prog (TpuEff nD τ sig (Elt F) Λ₀ .tc) α} (o : Fin 8) (ho : o ≠ 0) (n : ℕ) (hn : n = 6 + o.val) (t : Dev nD) (ht : t = up o c) {m : ℕ} (hm : m = o.val)
    {inb inb' : ∀ a, (![m, 0, 0, 0] : Fin 4 → ℕ) a + S1x2x48x512.size a ≤ S8x2x48x512.size a} {s r : DmaSem sig} (hs : s = dS 0 o) (hr : r = dS 1 o)
    {hsc : (sv M1 m inb' : Memref sig (Dev.tc t : Thread nD τ).2.kind .vmem S2x48x512 .bf16).view.ref.isScScratch = false}
    {hsrc : (sv M0 m inb).view.WordExact} {hdst : (sv M1 m inb').view.WordExact}
    {hsem : DmaTarget.Typed .vmem (.dma r) (.remote (Dev.tc t : Thread nD τ) (sv M1 m inb' : Memref sig (Dev.tc t : Thread nD τ).2.kind .vmem S2x48x512 .bf16) (.dma s) hsc)} :
    iprop(recs I K ∗ OW (F := F) c n ∗ xo c (slot o) (Xs I c) ∗ (∃ f, xi (F := F) (up o c) (slot o) f)
        ∗ dutyTok ER (dC 0 o c) 0 0 ∗ dutyTok ER (dC 1 o (up o c)) 0 0)
      ⊢ iprop(((OW (F := F) c (n + 1) ∗ cred (tallyAt (dC 0 o c) () N)) -∗ wpB (F := F) c (k ⟨⟩) Q)
        -∗ wpB (F := F) c (.op (.enqueueDma (sv M0 m inb) (.remote (Dev.tc t : Thread nD τ) (sv M1 m inb' : Memref sig (Dev.tc t : Thread nD τ).2.kind .vmem S2x48x512 .bf16) (.dma s) hsc) (.dma r) hsrc hdst hsem) k) Q) := by
  subst hn ht hs hr
  unfold OW
  iintro ⟨#HR, ⟨%W, HO⟩, Hs, ⟨%f, Hd⟩, Ht, Ht'⟩ Hk
  iapply (Rounds.wp_send_pointsTo 𝒱₀ ER (Rd I) (c : Thread nD τ) none (src := sv M0 m inb) (c' := Dev.tc (up o c)) (dst := (sv M1 m inb' : Memref sig (Dev.tc (up o c) : Thread nD τ).2.kind .vmem S2x48x512 .bf16)) (κ₁ := K (c, dK 0 o)) (κ₂ := K (up o c, dK 1 o))
    (r₁ := 0) (r₂ := 0) (d₁ := 0) (d₂ := 0) (q := fullShare) (fs := Xs I c) (fd := f)
    (by rw [duties_dma I c o 0 ho]; exact Finset.mem_singleton_self _) (by rw [duties_dma I (up o c) o 1 ho]; exact Finset.mem_singleton_self _)
    () () N rfl rfl rfl (due c (6 + o.val + 1)) (due_step c _ (due_x c o ho)) (W := W)
    (by rw [payload_dma, dmaPay0, set_sv0 hm])
    (by
      rw [payload_dma, dmaPay1, set_sv1 hm]
      exact pts_congr fun i hi => (land_x f (Xs I c) hm hi).trans (by rw [xr_slot I _ hi, dn_up])))
    $$ [HO Hs Hd Ht Ht']
  · isplitr; · iapply (inv_dma I K c 0 o); iexact HR
    isplitr; · iapply (inv_dma I K (up o c) 1 o); iexact HR
    isplitl [Hs]; · rw [set_sv0 hm]; iexact Hs
    isplitl [Hd]; · rw [set_sv1 hm]; iexact Hd
    isplitl [HO]; · iexact HO
    isplitl [Ht]; · iexact Ht
    isplitr; · iapply (rea_dma I K c 0 o); iexact HR
    isplitl [Ht']; · iexact Ht'
    iapply (rea_dma I K (up o c) 1 o); iexact HR
  iintro ⟨Hc, HO⟩
  iapply Hk
  isplitl [HO]; · iexists W; iexact HO
  iexact Hc

/-- Sending the result slot `o` back to the device `o` places before. -/
theorem step_sendY {α : Type} {Q : α → sProp 𝕄} {k : PUnit.{1} → Prog (TpuEff nD τ sig (Elt F) Λ₀ .tc) α} (o : Fin 8) (ho : o ≠ 0) (n : ℕ) (hn : n = 13 + o.val) (t : Dev nD) (ht : t = dn o c) {m : ℕ} (hm : m = o.val)
    {inb inb' : ∀ a, (![m, 0, 0, 0] : Fin 4 → ℕ) a + S1x2x48x512.size a ≤ S8x2x48x512.size a} {s r : DmaSem sig} (hs : s = dS 2 o) (hr : r = dS 3 o)
    {hsc : (sv M3 m inb' : Memref sig (Dev.tc t : Thread nD τ).2.kind .vmem S2x48x512 .bf16).view.ref.isScScratch = false}
    {hsrc : (sv M2 m inb).view.WordExact} {hdst : (sv M3 m inb').view.WordExact}
    {hsem : DmaTarget.Typed .vmem (.dma r) (.remote (Dev.tc t : Thread nD τ) (sv M3 m inb' : Memref sig (Dev.tc t : Thread nD τ).2.kind .vmem S2x48x512 .bf16) (.dma s) hsc)} :
    iprop(recs I K ∗ OW (F := F) c n ∗ yo c (slot o) (Ys I c) ∗ (∃ f, yi (F := F) (dn o c) (slot o) f)
        ∗ dutyTok ER (dC 2 o c) 0 0 ∗ dutyTok ER (dC 3 o (dn o c)) 0 0)
      ⊢ iprop(((OW (F := F) c (n + 1) ∗ cred (tallyAt (dC 2 o c) () N)) -∗ wpB (F := F) c (k ⟨⟩) Q)
        -∗ wpB (F := F) c (.op (.enqueueDma (sv M2 m inb) (.remote (Dev.tc t : Thread nD τ) (sv M3 m inb' : Memref sig (Dev.tc t : Thread nD τ).2.kind .vmem S2x48x512 .bf16) (.dma s) hsc) (.dma r) hsrc hdst hsem) k) Q) := by
  subst hn ht hs hr
  unfold OW
  iintro ⟨#HR, ⟨%W, HO⟩, Hs, ⟨%f, Hd⟩, Ht, Ht'⟩ Hk
  iapply (Rounds.wp_send_pointsTo 𝒱₀ ER (Rd I) (c : Thread nD τ) none (src := sv M2 m inb) (c' := Dev.tc (dn o c)) (dst := (sv M3 m inb' : Memref sig (Dev.tc (dn o c) : Thread nD τ).2.kind .vmem S2x48x512 .bf16)) (κ₁ := K (c, dK 2 o)) (κ₂ := K (dn o c, dK 3 o))
    (r₁ := 0) (r₂ := 0) (d₁ := 0) (d₂ := 0) (q := fullShare) (fs := Ys I c) (fd := f)
    (by rw [duties_dma I c o 2 ho]; exact Finset.mem_singleton_self _) (by rw [duties_dma I (dn o c) o 3 ho]; exact Finset.mem_singleton_self _)
    () () N rfl rfl rfl (due c (13 + o.val + 1)) (due_step c _ (due_y c o ho)) (W := W)
    (by rw [payload_dma, dmaPay2, set_sv2 hm])
    (by
      rw [payload_dma, dmaPay3, set_sv3 hm]
      exact pts_congr fun i hi => (land_y f (Ys I c) hm hi).trans (by rw [yr_slot I _ hi, up_dn])))
    $$ [HO Hs Hd Ht Ht']
  · isplitr; · iapply (inv_dma I K c 2 o); iexact HR
    isplitr; · iapply (inv_dma I K (dn o c) 3 o); iexact HR
    isplitl [Hs]; · rw [set_sv2 hm]; iexact Hs
    isplitl [Hd]; · rw [set_sv3 hm]; iexact Hd
    isplitl [HO]; · iexact HO
    isplitl [Ht]; · iexact Ht
    isplitr; · iapply (rea_dma I K c 2 o); iexact HR
    isplitl [Ht']; · iexact Ht'
    iapply (rea_dma I K (dn o c) 3 o); iexact HR
  iintro ⟨Hc, HO⟩
  iapply Hk
  isplitl [HO]; · iexists W; iexact HO
  iexact Hc

end Steps

end Cert.KernelIdeal.Moe

end
-- ==== Proof.Parts0.lean ====
/-
What a device holds in the middle of the kernel, in named bundles, and the splitting of a buffer into its eight slots.
-/
module

public import proofs.«01_k».proof.Proof.Steps

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of the body on the buffers and semaphores the kernel is called with. -/
abbrev onBufs {β : Type _} (f : (arg0 : Memref sig .tc .vmem S512x512 .f32) → arg0.IsWhole → (arg1 : Memref sig .tc .vmem S512 .i32) → arg1.IsWhole
    → (arg2 : Memref sig .tc .vmem S2x512x1024 .f32) → arg2.IsWhole → (arg3 : Memref sig .tc .vmem S2x1024x512 .f32) → arg3.IsWhole
    → (arg4 : Memref sig .tc .vmem S512x512 .f32) → arg4.IsWhole → (arg5 : Memref sig .tc .vmem S8x2x48x512 .bf16) → arg5.IsWhole
    → (arg6 : Memref sig .tc .vmem S8x2x48x512 .bf16) → arg6.IsWhole → (arg7 : Memref sig .tc .vmem S8x2x48x512 .bf16) → arg7.IsWhole
    → (arg8 : Memref sig .tc .vmem S8x2x48x512 .bf16) → arg8.IsWhole → DmaSems sig S8 → DmaSems sig S8 → DmaSems sig S8 → DmaSems sig S8 → Sems sig S_ → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scoped0

/-! ## The bundles -/

section
variable (I : Ins F) (c : Dev nD)

/-- The right to raise the barrier of the device `o` places on. -/
abbrev bT (o : Fin 8) : sProp 𝕄 := dutyTok ER (barC (up o c)) 0 o
/-- The right to raise its closing semaphore. -/
abbrev eT (o : Fin 8) : sProp 𝕄 := dutyTok ER (endC (up o c)) 0 o
/-- The rights of the two ends of sending slot `o` out. -/
abbrev xT (o : Fin 8) : sProp 𝕄 := iprop(dutyTok ER (dC 0 o c) 0 0 ∗ dutyTok ER (dC 1 o (up o c)) 0 0)
/-- The rights of the two ends of sending results back. -/
abbrev yT (o : Fin 8) : sProp 𝕄 := iprop(dutyTok ER (dC 2 o c) 0 0 ∗ dutyTok ER (dC 3 o (dn o c)) 0 0)
/-- The two receive slots handed over with a barrier signal. -/
abbrev give (o : Fin 8) : sProp 𝕄 := iprop((∃ f, xi (F := F) c (slot (-o)) f) ∗ (∃ f, yi (F := F) c (slot o) f))
/-- The slots of other devices this device writes. -/
abbrev xTgt (o : Fin 8) : sProp 𝕄 := iprop(∃ f, xi (F := F) (up o c) (slot o) f)
abbrev yTgt (o : Fin 8) : sProp 𝕄 := iprop(∃ f, yi (F := F) (dn o c) (slot o) f)
/-- What waiting for a received slot takes. -/
abbrev rW (j : Fin 4) (o : Fin 8) : sProp 𝕄 := iprop(cred (tallyAt (dC j o c) () N) ∗ atPos ER (dC j o c) 0 ∅ 0)
/-- A cell nothing has touched. -/
abbrev sP (j : Fin 4) (o : Fin 8) : sProp 𝕄 := atPos ER (dC j o c) 0 ∅ 0
/-- Credit for one transfer. -/
abbrev cr (j : Fin 4) (o : Fin 8) : sProp 𝕄 := cred (tallyAt (dC j o c) () N)
/-- A semaphore at rest. -/
abbrev z (j : Fin 4) (o : Fin 8) : sProp 𝕄 := semVal (dC j o c) 0

end

/-- A family at the seven proper offsets. -/
abbrev all7 (Φ : Fin 8 → sProp 𝕄) : sProp 𝕄 := iprop(Φ 1 ∗ Φ 2 ∗ Φ 3 ∗ Φ 4 ∗ Φ 5 ∗ Φ 6 ∗ Φ 7)

/-! ## Peer addresses -/

theorem dev1 (c : Dev nD) : (⟨k0_dev1 c, k0_dev1_lt c⟩ : Dev nD) = up 1 c := by revert c; decide +kernel
theorem dev2 (c : Dev nD) : (⟨k0_dev2 c, k0_dev2_lt c⟩ : Dev nD) = up 2 c := by revert c; decide +kernel
theorem dev3 (c : Dev nD) : (⟨k0_dev3 c, k0_dev3_lt c⟩ : Dev nD) = up 3 c := by revert c; decide +kernel
theorem dev4 (c : Dev nD) : (⟨k0_dev4 c, k0_dev4_lt c⟩ : Dev nD) = up 4 c := by revert c; decide +kernel
theorem dev5 (c : Dev nD) : (⟨k0_dev5 c, k0_dev5_lt c⟩ : Dev nD) = up 5 c := by revert c; decide +kernel
theorem dev6 (c : Dev nD) : (⟨k0_dev6 c, k0_dev6_lt c⟩ : Dev nD) = up 6 c := by revert c; decide +kernel
theorem dev7 (c : Dev nD) : (⟨k0_dev7 c, k0_dev7_lt c⟩ : Dev nD) = up 7 c := by revert c; decide +kernel
theorem dev8 (c : Dev nD) : (⟨k0_dev8 c, k0_dev8_lt c⟩ : Dev nD) = up 1 c := by revert c; decide +kernel
theorem dev9 (c : Dev nD) : (⟨k0_dev9 c, k0_dev9_lt c⟩ : Dev nD) = up 2 c := by revert c; decide +kernel
theorem dev10 (c : Dev nD) : (⟨k0_dev10 c, k0_dev10_lt c⟩ : Dev nD) = up 3 c := by revert c; decide +kernel
theorem dev11 (c : Dev nD) : (⟨k0_dev11 c, k0_dev11_lt c⟩ : Dev nD) = up 4 c := by revert c; decide +kernel
theorem dev12 (c : Dev nD) : (⟨k0_dev12 c, k0_dev12_lt c⟩ : Dev nD) = up 5 c := by revert c; decide +kernel
theorem dev13 (c : Dev nD) : (⟨k0_dev13 c, k0_dev13_lt c⟩ : Dev nD) = up 6 c := by revert c; decide +kernel
theorem dev14 (c : Dev nD) : (⟨k0_dev14 c, k0_dev14_lt c⟩ : Dev nD) = up 7 c := by revert c; decide +kernel
theorem dev15 (c : Dev nD) : (⟨k0_dev15 c, k0_dev15_lt c⟩ : Dev nD) = dn 1 c := by revert c; decide +kernel
theorem dev16 (c : Dev nD) : (⟨k0_dev16 c, k0_dev16_lt c⟩ : Dev nD) = dn 2 c := by revert c; decide +kernel
theorem dev17 (c : Dev nD) : (⟨k0_dev17 c, k0_dev17_lt c⟩ : Dev nD) = dn 3 c := by revert c; decide +kernel
theorem dev18 (c : Dev nD) : (⟨k0_dev18 c, k0_dev18_lt c⟩ : Dev nD) = dn 4 c := by revert c; decide +kernel
theorem dev19 (c : Dev nD) : (⟨k0_dev19 c, k0_dev19_lt c⟩ : Dev nD) = dn 5 c := by revert c; decide +kernel
theorem dev20 (c : Dev nD) : (⟨k0_dev20 c, k0_dev20_lt c⟩ : Dev nD) = dn 6 c := by revert c; decide +kernel
theorem dev21 (c : Dev nD) : (⟨k0_dev21 c, k0_dev21_lt c⟩ : Dev nD) = dn 7 c := by revert c; decide +kernel
theorem dev22 (c : Dev nD) : (⟨k0_dev22 c, k0_dev22_lt c⟩ : Dev nD) = up 1 c := by revert c; decide +kernel
theorem dev23 (c : Dev nD) : (⟨k0_dev23 c, k0_dev23_lt c⟩ : Dev nD) = up 2 c := by revert c; decide +kernel
theorem dev24 (c : Dev nD) : (⟨k0_dev24 c, k0_dev24_lt c⟩ : Dev nD) = up 3 c := by revert c; decide +kernel
theorem dev25 (c : Dev nD) : (⟨k0_dev25 c, k0_dev25_lt c⟩ : Dev nD) = up 4 c := by revert c; decide +kernel
theorem dev26 (c : Dev nD) : (⟨k0_dev26 c, k0_dev26_lt c⟩ : Dev nD) = up 5 c := by revert c; decide +kernel
theorem dev27 (c : Dev nD) : (⟨k0_dev27 c, k0_dev27_lt c⟩ : Dev nD) = up 6 c := by revert c; decide +kernel
theorem dev28 (c : Dev nD) : (⟨k0_dev28 c, k0_dev28_lt c⟩ : Dev nD) = up 7 c := by revert c; decide +kernel

/-! ## Splitting a buffer -/

theorem split8 {A : Finset S8x2x48x512.Idx → sProp 𝕄} (hA : ∀ S T, Disjoint S T → A (S ∪ T) ⊣⊢ iprop(A S ∗ A T)) (a b d : ℕ) (h : a ≤ b) (h' : b ≤ d) :
    A (band a d) ⊣⊢ iprop(A (band a b) ∗ A (band b d)) := by
  rw [band_union h h']; exact hA _ _ (band_disj a b d)

theorem band1 {A : Finset S8x2x48x512.Idx → sProp 𝕄} (a : ℕ) (h : a < 8) : A (band a (a + 1)) = A (slot ⟨a, h⟩) := by rw [band_slot h]

/-- The whole buffer as four bands of the kernel's chunks. -/
theorem split_chunks {A : Finset S8x2x48x512.Idx → sProp 𝕄} (hA : ∀ S T, Disjoint S T → A (S ∪ T) ⊣⊢ iprop(A S ∗ A T)) :
    A Finset.univ ⊣⊢ iprop(A (slot 0) ∗ A (band 1 3) ∗ A (band 3 5) ∗ A (band 5 8)) := by
  rw [univ_band]
  refine (split8 hA 0 1 8 (by decide) (by decide)).trans ?_
  refine sep_congr (.of_eq (band1 0 (by decide))) ?_
  refine (split8 hA 1 3 8 (by decide) (by decide)).trans ?_
  exact sep_congr .rfl (split8 hA 3 5 8 (by decide) (by decide))
theorem split_13 {A : Finset S8x2x48x512.Idx → sProp 𝕄} (hA : ∀ S T, Disjoint S T → A (S ∪ T) ⊣⊢ iprop(A S ∗ A T)) :
    A (band 1 3) ⊣⊢ iprop(A (slot 1) ∗ A (slot 2)) :=
  (split8 hA 1 2 3 (by decide) (by decide)).trans (sep_congr (.of_eq (band1 1 (by decide))) (.of_eq (band1 2 (by decide))))
theorem split_35 {A : Finset S8x2x48x512.Idx → sProp 𝕄} (hA : ∀ S T, Disjoint S T → A (S ∪ T) ⊣⊢ iprop(A S ∗ A T)) :
    A (band 3 5) ⊣⊢ iprop(A (slot 3) ∗ A (slot 4)) :=
  (split8 hA 3 4 5 (by decide) (by decide)).trans (sep_congr (.of_eq (band1 3 (by decide))) (.of_eq (band1 4 (by decide))))
theorem split_58 {A : Finset S8x2x48x512.Idx → sProp 𝕄} (hA : ∀ S T, Disjoint S T → A (S ∪ T) ⊣⊢ iprop(A S ∗ A T)) :
    A (band 5 8) ⊣⊢ iprop(A (slot 5) ∗ A (slot 6) ∗ A (slot 7)) :=
  (split8 hA 5 6 8 (by decide) (by decide)).trans (sep_congr (.of_eq (band1 5 (by decide)))
    ((split8 hA 6 7 8 (by decide) (by decide)).trans (sep_congr (.of_eq (band1 6 (by decide))) (.of_eq (band1 7 (by decide))))))

section
variable (c : Dev nD) (f : Vec F S8x2x48x512 .bf16)
theorem xo_union (S T : Finset S8x2x48x512.Idx) (h : Disjoint S T) : (xo c (S ∪ T) f : sProp 𝕄) ⊣⊢ iprop(xo c S f ∗ xo c T f) := pointsTo_union h
theorem xi_union (S T : Finset S8x2x48x512.Idx) (h : Disjoint S T) : (xi c (S ∪ T) f : sProp 𝕄) ⊣⊢ iprop(xi c S f ∗ xi c T f) := pointsTo_union h
theorem yo_union (S T : Finset S8x2x48x512.Idx) (h : Disjoint S T) : (yo c (S ∪ T) f : sProp 𝕄) ⊣⊢ iprop(yo c S f ∗ yo c T f) := pointsTo_union h
theorem yi_union (S T : Finset S8x2x48x512.Idx) (h : Disjoint S T) : (yi c (S ∪ T) f : sProp 𝕄) ⊣⊢ iprop(yi c S f ∗ yi c T f) := pointsTo_union h
end

theorem bigSep_ins {J : Type} [DecidableEq J] {S : Finset J} {j : J} (h : j ∉ S) (Φ : J → sProp 𝕄) :
    bigSep (insert j S) Φ = iprop(Φ j ∗ bigSep S Φ) := BI.bigSep_insert h

/-- What the barrier brought: the slots of the other devices this device will write. -/
theorem bar_all (c : Dev nD) : (bigSep (Finset.univ.erase 0) fun o => barPay (F := F) c o) ⊢ iprop(all7 (xTgt (F := F) c) ∗ all7 (yTgt (F := F) c)) := by
  have h : (Finset.univ.erase 0 : Finset (Fin 8)) = {1, 2, 3, 4, 5, 6, 7} := by decide
  rw [h]
  have hx : ∀ o : Fin 8, (iprop(∃ f, xi (F := F) (dn o c) (slot (-o)) f) : sProp 𝕄) = xTgt c (-o) := fun o => by unfold xTgt; rw [up_neg]
  have hy : ∀ o : Fin 8, (iprop(∃ f, yi (F := F) (dn o c) (slot o) f) : sProp 𝕄) = yTgt c o := fun _ => rfl
  have h1 := hx 1; have h2 := hx 2; have h3 := hx 3; have h4 := hx 4; have h5 := hx 5; have h6 := hx 6; have h7 := hx 7
  rw [bigSep_ins (by decide), bigSep_ins (by decide), bigSep_ins (by decide), bigSep_ins (by decide), bigSep_ins (by decide), bigSep_ins (by decide), bigSep_singleton]
  unfold barPay
  rw [h1, h2, h3, h4, h5, h6, h7, hy 1, hy 2, hy 3, hy 4, hy 5, hy 6, hy 7]
  unfold all7
  iintro ⟨⟨a1, b1⟩, ⟨a2, b2⟩, ⟨a3, b3⟩, ⟨a4, b4⟩, ⟨a5, b5⟩, ⟨a6, b6⟩, a7, b7⟩
  isplitl [a1 a2 a3 a4 a5 a6 a7]
  · isplitl [a7]; · iexact a7
    isplitl [a6]; · iexact a6
    isplitl [a5]; · iexact a5
    isplitl [a4]; · iexact a4
    isplitl [a3]; · iexact a3
    isplitl [a2]; · iexact a2
    iexact a1
  isplitl [b1]; · iexact b1
  isplitl [b2]; · iexact b2
  isplitl [b3]; · iexact b3
  isplitl [b4]; · iexact b4
  isplitl [b5]; · iexact b5
  isplitl [b6]; · iexact b6
  iexact b7

theorem wpB_ret {α : Type} (c : Dev nD) (a : α) (Q : α → sProp 𝕄) : Q a ⊢ wpB (F := F) c (.ret a) Q := by
  show Q a ⊢ iprop(|={Set.univ}[frame]=> Q a)
  iintro H; imodintro; iexact H

end Cert.KernelIdeal.Moe

end
-- ==== Proof.Parts1.lean ====
/-
The pieces of the body, one after another: each takes what it uses and leaves what it makes.
-/
module

public import proofs.«01_k».proof.Proof.Parts0

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reading and writing memory -/

/-- A load whose rectangle is held, at what it reads. -/
theorem ld {α : Type} {Q : α → sProp 𝕄} (c : Dev nD) {cs : CoreSpace} {s : Shape} {e : EltTy} (m : Memref sig .tc cs s e) {r : Rect s} {hl : m.view.LoadsAt r}
    {k : (r.shape.Idx → Elt F e) → Prog (TpuEff nD τ sig (Elt F) Λ₀ .tc) α}
    {S : Finset (Idx ((m.access r).loc (c : Thread nD τ)))} {f : Buf (Elt F) ((m.access r).loc (c : Thread nD τ))} (g : r.shape.Idx → Elt F e)
    (hS : (m.access r).set ⊆ S) (hg : (m.access r).read (Elt F) f = g) :
    (((m.access r).loc (c : Thread nD τ) ↦[S]{fullShare} f) : sProp 𝕄)
      ⊢ iprop((((m.access r).loc (c : Thread nD τ) ↦[S]{fullShare} f) -∗ wpB (F := F) c (k g) Q) -∗ wpB (F := F) c (.op (.load m r hl) k) Q) := by
  subst hg
  exact wp_load_rect 𝒱₀ (c : Thread nD τ) none Set.univ hS

/-- A store inside what is held, at what it leaves there. -/
theorem st {α : Type} {Q : α → sProp 𝕄} (c : Dev nD) {cs : CoreSpace} {s : Shape} {e : EltTy} (m : Memref sig .tc cs s e) {r : Rect s} {w : r.shape.Idx → Elt F e}
    {hx : (m.access r).Stores Finset.univ} {hm : (Finset.univ : Finset r.shape.Idx) = Finset.univ ∨ ∀ a, r.stride a = 1}
    {k : PUnit.{1} → Prog (TpuEff nD τ sig (Elt F) Λ₀ .tc) α}
    {S : Finset (Idx ((m.access r).loc (c : Thread nD τ)))} {f : Buf (Elt F) ((m.access r).loc (c : Thread nD τ))} (g : Buf (Elt F) ((m.access r).loc (c : Thread nD τ)))
    (hS : (m.access r).setOn Finset.univ ⊆ S) (hg : ∀ i ∈ S, (m.access r).write (Elt F) f w Finset.univ i = g i) :
    (((m.access r).loc (c : Thread nD τ) ↦[S]{fullShare} f) : sProp 𝕄)
      ⊢ iprop((((m.access r).loc (c : Thread nD τ) ↦[S]{fullShare} g) -∗ wpB (F := F) c (k ⟨⟩) Q) -∗ wpB (F := F) c (.op (.store m r w Finset.univ hx hm) k) Q) := by
  iintro H Hk
  iapply (wp_store 𝒱₀ (c : Thread nD τ) none Set.univ hS) $$ H
  iintro H
  iapply Hk
  iapply (pts_congr (F := F) hg)
  iexact H

theorem acc_band (b : Ref sig .tc) {r : Rect b.ty.shape} {S : Finset b.ty.shape.Idx} (h : r.set ⊆ S) : ((View.whole b).slice r).set ⊆ S := by
  rw [View.set_slice_whole]; exact h

theorem rX_sub : (rX).set ⊆ slot 0 := by rw [set_band, band_slot (by decide)]; exact Finset.Subset.refl _
theorem rX1_sub : (rX1).set ⊆ band 1 3 := by rw [set_band]
theorem rX3_sub : (rX3).set ⊆ band 3 5 := by rw [set_band]
theorem rX5_sub : (rX5).set ⊆ band 5 8 := by rw [set_band]
theorem r00_sub : (r00).set ⊆ slot 0 := by rw [← band_slot (by decide)]; exact piece_sub_band
theorem r01_sub : (r01).set ⊆ slot 0 := by rw [← band_slot (by decide)]; exact piece_sub_band
theorem r10_sub : (r10).set ⊆ band 1 3 := piece_sub_band
theorem r11_sub : (r11).set ⊆ band 1 3 := piece_sub_band
theorem r30_sub : (r30).set ⊆ band 3 5 := piece_sub_band
theorem r31_sub : (r31).set ⊆ band 3 5 := piece_sub_band
theorem r50_sub : (r50).set ⊆ band 5 8 := piece_sub_band
theorem r51_sub : (r51).set ⊆ band 5 8 := piece_sub_band

/-! ## The staged inputs -/

abbrev sx (c : Dev nD) (f : Vec F S512x512 .f32) : sProp 𝕄 := (c : Thread nD τ).loc cc0_stg0_0 ↦[Finset.univ]{fullShare} f
abbrev sa (c : Dev nD) (f : Vec F S512 .i32) : sProp 𝕄 := (c : Thread nD τ).loc cc0_stg1_0 ↦[Finset.univ]{fullShare} f
abbrev sw1 (c : Dev nD) (f : Vec F S2x512x1024 .f32) : sProp 𝕄 := (c : Thread nD τ).loc cc0_stg2_0 ↦[Finset.univ]{fullShare} f
abbrev sw2 (c : Dev nD) (f : Vec F S2x1024x512 .f32) : sProp 𝕄 := (c : Thread nD τ).loc cc0_stg3_0 ↦[Finset.univ]{fullShare} f
abbrev so (c : Dev nD) (f : Vec F S512x512 .f32) : sProp 𝕄 := (c : Thread nD τ).loc cc0_stg4_0 ↦[Finset.univ]{fullShare} f

theorem wpB_bind {α β : Type} (c : Dev nD) (p : Prog (TpuEff nD τ sig (Elt F) Λ₀ .tc) α) (k : α → Prog (TpuEff nD τ sig (Elt F) Λ₀ .tc) β) (Q : β → sProp 𝕄) :
    wpB (F := F) c (p.bind k) Q = wpB (F := F) c p fun a => wpB (F := F) c (k a) Q := wp_bind ..

section
variable (I : Ins F) (K : Dev nD × Fin 34 → ℕ) (c : Dev nD)

abbrev bar0 : Sems sig S_ := SemArray.scalar (sig.barrier 0 rfl)

theorem part1 {Q : _ → sProp 𝕄} :
    iprop(recs I K ∗ OW (F := F) c 0 ∗ bT (F := F) c 1 ∗ bT (F := F) c 2 ∗ give (F := F) c 1 ∗ give (F := F) c 2)
      ⊢ iprop((∀ w w' w'', OW (F := F) c 2 -∗ Q ⟨c, pos c, bar0, w, w', w''⟩) -∗ wpB (F := F) c (onBufs (k0_part1 (F := F))) Q) := by
  rw [k0_part1_eq_skeleton]
  unfold onBufs k0_part1_skel
  simp only [semSignalWord, semWaitWord, Prog.lift, Prog.bind_op, Prog.bind_ret, Prog.pure_eq_ret, wp_deviceId]
  iintro ⟨#HR, HO, T1, T2, ⟨x1, y1⟩, x2, y2⟩ Hk
  iapply (step_bar I K c 1 (by decide) 0 rfl _ (dev1 c) _ rfl _ (by decide)) $$ [HO T1 x1 y1]
  · isplitr; · iexact HR
    isplitl [HO]; · iexact HO
    isplitl [T1]; · iexact T1
    isplitl [x1]; · iexact x1
    iexact y1
  iintro HO
  iapply (step_bar I K c 2 (by decide) 1 rfl _ (dev2 c) _ rfl _ (by decide)) $$ [HO T2 x2 y2]
  · isplitr; · iexact HR
    isplitl [HO]; · iexact HO
    isplitl [T2]; · iexact T2
    isplitl [x2]; · iexact x2
    iexact y2
  iintro HO
  iapply (wpB_ret (F := F))
  iapply Hk; iexact HO

theorem part2 {Q : _ → sProp 𝕄} (w w') (w'' : BitVec 1) :
    iprop(recs I K ∗ OW (F := F) c 2 ∗ bT (F := F) c 3 ∗ bT (F := F) c 4 ∗ give (F := F) c 3 ∗ give (F := F) c 4)
      ⊢ iprop((∀ u u' u'', OW (F := F) c 4 -∗ Q ⟨u, u', u''⟩) -∗ wpB (F := F) c (onBufs (k0_part2 (F := F)) c (pos c) bar0 w w' w'') Q) := by
  rw [k0_part2_eq_skeleton]
  unfold onBufs k0_part2_skel
  simp only [semSignalWord, semWaitWord, Prog.lift, Prog.bind_op, Prog.bind_ret, Prog.pure_eq_ret, wp_deviceId]
  iintro ⟨#HR, HO, T1, T2, ⟨x1, y1⟩, x2, y2⟩ Hk
  iapply (step_bar I K c 3 (by decide) 2 rfl _ (dev3 c) _ rfl _ (by decide)) $$ [HO T1 x1 y1]
  · isplitr; · iexact HR
    isplitl [HO]; · iexact HO
    isplitl [T1]; · iexact T1
    isplitl [x1]; · iexact x1
    iexact y1
  iintro HO
  iapply (step_bar I K c 4 (by decide) 3 rfl _ (dev4 c) _ rfl _ (by decide)) $$ [HO T2 x2 y2]
  · isplitr; · iexact HR
    isplitl [HO]; · iexact HO
    isplitl [T2]; · iexact T2
    isplitl [x2]; · iexact x2
    iexact y2
  iintro HO
  iapply (wpB_ret (F := F))
  iapply Hk; iexact HO

theorem part3 {Q : _ → sProp 𝕄} (w) (w' : BitVec 1) (w'') :
    iprop(recs I K ∗ OW (F := F) c 4 ∗ (bT (F := F) c 5 ∗ bT (F := F) c 6 ∗ bT (F := F) c 7) ∗ (give (F := F) c 5 ∗ give (F := F) c 6 ∗ give (F := F) c 7) ∗ sa c (I.a c))
      ⊢ iprop(((OW (F := F) c 7 ∗ sa c (I.a c)) -∗ Q ⟨aRow I c, 1#32⟩) -∗ wpB (F := F) c (onBufs (k0_part3 (F := F)) c (pos c) bar0 w w' w'') Q) := by
  rw [k0_part3_eq_skeleton]
  unfold onBufs k0_part3_skel
  simp only [semSignalWord, semWaitWord, Prog.lift, Prog.bind_op, Prog.bind_ret, Prog.pure_eq_ret, wp_deviceId]
  iintro ⟨#HR, HO, ⟨T1, T2, T3⟩, ⟨⟨x1, y1⟩, ⟨x2, y2⟩, x3, y3⟩, Ha⟩ Hk
  iapply (step_bar I K c 5 (by decide) 4 rfl _ (dev5 c) _ rfl _ (by decide)) $$ [HO T1 x1 y1]
  · isplitr; · iexact HR
    isplitl [HO]; · iexact HO
    isplitl [T1]; · iexact T1
    isplitl [x1]; · iexact x1
    iexact y1
  iintro HO
  iapply (step_bar I K c 6 (by decide) 5 rfl _ (dev6 c) _ rfl _ (by decide)) $$ [HO T2 x2 y2]
  · isplitr; · iexact HR
    isplitl [HO]; · iexact HO
    isplitl [T2]; · iexact T2
    isplitl [x2]; · iexact x2
    iexact y2
  iintro HO
  iapply (step_bar I K c 7 (by decide) 6 rfl _ (dev7 c) _ rfl _ (by decide)) $$ [HO T3 x3 y3]
  · isplitr; · iexact HR
    isplitl [HO]; · iexact HO
    isplitl [T3]; · iexact T3
    isplitl [x3]; · iexact x3
    iexact y3
  iintro HO
  iapply (ld c (Memref.whole cc0_stg1_0) (S := Finset.univ) (rd (Rect.unit (s := S512) ![0] S512.size inb_S512_S512_0) (I.a c)) (Finset.subset_univ _) rfl) $$ Ha
  iintro Ha
  iapply (wpB_ret (F := F))
  iapply Hk
  isplitl [HO]; · iexact HO
  iexact Ha

theorem part4 {Q : _ → sProp 𝕄} (f : Vec F S8x2x48x512 .bf16) :
    iprop(sx c (I.x c) ∗ xo c Finset.univ f)
      ⊢ iprop(((sx c (I.x c) ∗ xo c Finset.univ f) -∗ Q ⟨P I c, k0_pay3 (pos c) (aRow I c) 1#32 (xBlk I c)⟩) -∗ wpB (F := F) c (onBufs (k0_part4 (F := F)) (pos c) (aRow I c) 1#32) Q) := by
  rw [k0_part4_eq_skeleton]
  unfold onBufs k0_part4_skel
  simp only [semSignalWord, semWaitWord, Prog.lift, Prog.bind_op, Prog.bind_ret, Prog.pure_eq_ret, wp_deviceId]
  iintro ⟨Hx, Hs⟩ Hk
  iapply (ld c (Memref.whole cc0_stg0_0) (r := Rect.unit (s := S512x512) ![0, 0] S512x512.size inb_S512x512_S512x512_0_0) (S := Finset.univ) (xBlk I c) (Finset.subset_univ _) rfl) $$ Hx
  iintro Hx
  iapply (ld c (Memref.whole cc0_scratch0) (r := Rect.unit (s := S8x2x48x512) ![0, 0, 0, 0] S8x2x48x512.size inb_S8x2x48x512_S8x2x48x512_0_0_0_0) (S := Finset.univ) (f := f) _ (Finset.subset_univ _) rfl) $$ Hs
  iintro Hs
  iapply (wpB_ret (F := F))
  iapply Hk
  isplitl [Hx]; · iexact Hx
  iexact Hs

theorem part5 {Q : _ → sProp 𝕄} (f : Vec F S8x2x48x512 .bf16) :
    iprop(recs I K ∗ OW (F := F) c 7 ∗ xo c Finset.univ f ∗ (cred (tallyAt (barC c) () 7) ∗ atPos ER (barC c) 0 ∅ 0) ∗ xT (F := F) c 1)
      ⊢ iprop((∀ v w w' u u' u'', (OW (F := F) c 8 ∗ semVal (barC c) 0 ∗ (xo c (slot 0) (Xs I c) ∗ xo c (slot 2) (Xs I c) ∗ xo c (band 3 5) (Xs I c) ∗ xo c (band 5 8) (Xs I c))
            ∗ (xTgt (F := F) c 2 ∗ xTgt (F := F) c 3 ∗ xTgt (F := F) c 4 ∗ xTgt (F := F) c 5 ∗ xTgt (F := F) c 6 ∗ xTgt (F := F) c 7)
            ∗ all7 (yTgt (F := F) c) ∗ cr (F := F) c 0 1) -∗ Q ⟨v, w, w', u, u', u''⟩)
          -∗ wpB (F := F) c (onBufs (k0_part5 (F := F)) c (pos c) bar0 (k0_pay3 (pos c) (aRow I c) 1#32 (xBlk I c))) Q) := by
  rw [k0_part5_eq_skeleton]
  unfold onBufs k0_part5_skel
  simp only [semSignalWord, semWaitWord, Prog.lift, Prog.bind_op, Prog.bind_ret, Prog.pure_eq_ret, wp_deviceId]
  iintro ⟨#HR, HO, Hs, ⟨Hc, Ha⟩, Ht⟩ Hk
  iapply (st c (Memref.whole cc0_scratch0) (r := Rect.unit (s := S8x2x48x512) ![0, 0, 0, 0] S8x2x48x512.size inb_S8x2x48x512_S8x2x48x512_0_0_0_0) (S := Finset.univ) (f := f) (Xs I c) (Finset.subset_univ _)
    (fun i _ => congrFun (Memref.write_access_unit_zero_univ (Elt F) cc0_scratch0 (by decide) _ f _) i)) $$ Hs
  iintro Hs
  iapply (step_barWait I K c _ rfl _ (by decide)) $$ [HO Hc Ha]
  · isplitr; · iexact HR
    isplitl [HO]; · iexact HO
    isplitl [Hc]; · iexact Hc
    iexact Ha
  iintro ⟨HO, Hz, Hp⟩
  ihave ⟨X, Y⟩ := (bar_all (F := F) c) $$ Hp
  icases X with ⟨X1, X⟩
  ihave ⟨S0, S1, S3, S5⟩ := (split_chunks (F := F) (A := fun S => xo c S (Xs I c)) (xo_union (F := F) c (Xs I c))).1 $$ Hs
  ihave ⟨S1, S2⟩ := (split_13 (F := F) (A := fun S => xo c S (Xs I c)) (xo_union (F := F) c (Xs I c))).1 $$ S1
  icases Ht with ⟨Ta, Tb⟩
  iapply (step_sendX I K c 1 (by decide) 7 rfl _ (dev8 c) (m := 1) rfl rfl rfl) $$ [HO S1 X1 Ta Tb]
  · isplitr; · iexact HR
    isplitl [HO]; · iexact HO
    isplitl [S1]; · iexact S1
    isplitl [X1]; · iexact X1
    isplitl [Ta]; · iexact Ta
    iexact Tb
  iintro ⟨HO, Hcr⟩
  iapply (wpB_ret (F := F))
  iapply Hk
  isplitl [HO]; · iexact HO
  isplitl [Hz]; · iexact Hz
  isplitl [S0 S2 S3 S5]
  · isplitl [S0]; · iexact S0
    isplitl [S2]; · iexact S2
    isplitl [S3]; · iexact S3
    iexact S5
  isplitl [X]; · iexact X
  isplitl [Y]; · iexact Y
  iexact Hcr

end

end Cert.KernelIdeal.Moe

end
-- ==== Proof.Parts2.lean ====
/-
The pieces of the body, one after another: each takes what it uses and leaves what it makes.
-/
module

public import proofs.«01_k».proof.Proof.Parts1

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem step_waitP {α : Type} {Q : α → sProp 𝕄} {k : PUnit.{1} → Prog (TpuEff nD τ sig (Elt F) Λ₀ .tc) α} (I : Ins F) (K : Dev nD × Fin 34 → ℕ) (c : Dev nD)
    (j : Fin 4) (o : Fin 8) (ho : o ≠ 0) (n : ℕ) (hl : ∀ ℓ ∈ dueLv.drop n, lvS (.dma (dS j o)) < ℓ) (X : sProp 𝕄) (hX : dmaPay I c (dS j o) = X)
    {s : DmaSem sig} (hs : s = dS j o) {sp sp' : Space} {sh sh' : Shape} {e e' : EltTy} {src : Memref sig .tc sp' sh' e'} {dst : Memref sig .tc sp sh e}
    {hsrc : src.view.WordExact} {hdst : dst.view.WordExact} (hN : dst.view.dmaCredit = N) :
    iprop(recs I K ∗ OW (F := F) c n ∗ cr (F := F) c j o ∗ sP (F := F) c j o)
      ⊢ iprop(((OW (F := F) c n ∗ z (F := F) c j o ∗ X) -∗ wpB (F := F) c (k ⟨⟩) Q)
        -∗ wpB (F := F) c (.op (.waitDma2 s src dst hsrc hdst) k) Q) := by
  subst hX
  exact step_wait I K c j o ho n hl hs hN

section
variable (I : Ins F) (K : Dev nD × Fin 34 → ℕ) (c : Dev nD)

theorem part6 {Q : _ → sProp 𝕄} (w1 w2) (w3 w4 w5 : BitVec 1) :
    iprop(recs I K ∗ OW (F := F) c 8 ∗ xo c (slot 2) (Xs I c) ∗ xTgt (F := F) c 2 ∗ xT (F := F) c 2)
      ⊢ iprop((∀ v v', (OW (F := F) c 9 ∗ cr (F := F) c 0 2) -∗ Q ⟨v, v'⟩) -∗ wpB (F := F) c (onBufs (k0_part6 (F := F)) c (pos c) w1 w2 w3 w4 w5) Q) := by
  rw [k0_part6_eq_skeleton]
  unfold onBufs k0_part6_skel
  simp only [semSignalWord, semWaitWord, Prog.lift, Prog.bind_op, Prog.bind_ret, Prog.pure_eq_ret, wp_deviceId]
  iintro ⟨#HR, HO, S2, X2, Ta, Tb⟩ Hk
  iapply (step_sendX I K c 2 (by decide) 8 rfl _ (dev9 c) (m := 2) rfl rfl rfl) $$ [HO S2 X2 Ta Tb]
  · isplitr; · iexact HR
    isplitl [HO]; · iexact HO
    isplitl [S2]; · iexact S2
    isplitl [X2]; · iexact X2
    isplitl [Ta]; · iexact Ta
    iexact Tb
  iintro ⟨HO, C2⟩
  iapply (wpB_ret (F := F))
  iapply Hk
  isplitl [HO]; · iexact HO
  iexact C2

theorem part7 {Q : _ → sProp 𝕄} :
    iprop(recs I K ∗ OW (F := F) c 9 ∗ xo c (band 3 5) (Xs I c) ∗ (xTgt (F := F) c 3 ∗ xTgt (F := F) c 4) ∗ (xT (F := F) c 3 ∗ xT (F := F) c 4))
      ⊢ iprop((∀ v v1 v2 v3, (OW (F := F) c 11 ∗ cr (F := F) c 0 3 ∗ cr (F := F) c 0 4) -∗ Q ⟨v, v1, v2, v3, 0#32⟩) -∗ wpB (F := F) c (onBufs (k0_part7 (F := F)) c (pos c)) Q) := by
  rw [k0_part7_eq_skeleton]
  unfold onBufs k0_part7_skel
  simp only [semSignalWord, semWaitWord, Prog.lift, Prog.bind_op, Prog.bind_ret, Prog.pure_eq_ret, wp_deviceId]
  iintro ⟨#HR, HO, S, ⟨X3, X4⟩, ⟨Ta, Tb⟩, Tc, Td⟩ Hk
  ihave ⟨S3, S4⟩ := (split_35 (F := F) (A := fun S => xo c S (Xs I c)) (xo_union (F := F) c (Xs I c))).1 $$ S
  iapply (step_sendX I K c 3 (by decide) 9 rfl _ (dev10 c) (m := 3) rfl rfl rfl) $$ [HO S3 X3 Ta Tb]
  · isplitr; · iexact HR
    isplitl [HO]; · iexact HO
    isplitl [S3]; · iexact S3
    isplitl [X3]; · iexact X3
    isplitl [Ta]; · iexact Ta
    iexact Tb
  iintro ⟨HO, C3⟩
  iapply (step_sendX I K c 4 (by decide) 10 rfl _ (dev11 c) (m := 4) rfl rfl rfl) $$ [HO S4 X4 Tc Td]
  · isplitr; · iexact HR
    isplitl [HO]; · iexact HO
    isplitl [S4]; · iexact S4
    isplitl [X4]; · iexact X4
    isplitl [Tc]; · iexact Tc
    iexact Td
  iintro ⟨HO, C4⟩
  iapply (wpB_ret (F := F))
  iapply Hk
  isplitl [HO]; · iexact HO
  isplitl [C3]; · iexact C3
  iexact C4

theorem part8 {Q : _ → sProp 𝕄} (w1 w2) (w3 : BitVec 1) (w4) :
    iprop(recs I K ∗ OW (F := F) c 11 ∗ xo c (slot 5) (Xs I c) ∗ xTgt (F := F) c 5 ∗ xT (F := F) c 5)
      ⊢ iprop((∀ v v', (OW (F := F) c 12 ∗ cr (F := F) c 0 5) -∗ Q ⟨v, v'⟩) -∗ wpB (F := F) c (onBufs (k0_part8 (F := F)) c (pos c) w1 w2 w3 w4) Q) := by
  rw [k0_part8_eq_skeleton]
  unfold onBufs k0_part8_skel
  simp only [semSignalWord, semWaitWord, Prog.lift, Prog.bind_op, Prog.bind_ret, Prog.pure_eq_ret, wp_deviceId]
  iintro ⟨#HR, HO, S2, X2, Ta, Tb⟩ Hk
  iapply (step_sendX I K c 5 (by decide) 11 rfl _ (dev12 c) (m := 5) rfl rfl rfl) $$ [HO S2 X2 Ta Tb]
  · isplitr; · iexact HR
    isplitl [HO]; · iexact HO
    isplitl [S2]; · iexact S2
    isplitl [X2]; · iexact X2
    isplitl [Ta]; · iexact Ta
    iexact Tb
  iintro ⟨HO, C2⟩
  iapply (wpB_ret (F := F))
  iapply Hk
  isplitl [HO]; · iexact HO
  iexact C2

theorem part9 {Q : _ → sProp 𝕄} :
    iprop(recs I K ∗ OW (F := F) c 12 ∗ xo c (slot 0) (Xs I c) ∗ (xo c (slot 6) (Xs I c) ∗ xo c (slot 7) (Xs I c)) ∗ (xTgt (F := F) c 6 ∗ xTgt (F := F) c 7) ∗ (xT (F := F) c 6 ∗ xT (F := F) c 7))
      ⊢ iprop((∀ v, (OW (F := F) c 14 ∗ xo c (slot 0) (Xs I c) ∗ cr (F := F) c 0 6 ∗ cr (F := F) c 0 7) -∗ Q ⟨v, k0_pay5 (rd rX (Xs I c))⟩) -∗ wpB (F := F) c (onBufs (k0_part9 (F := F)) c (pos c)) Q) := by
  rw [k0_part9_eq_skeleton]
  unfold onBufs k0_part9_skel
  simp only [semSignalWord, semWaitWord, Prog.lift, Prog.bind_op, Prog.bind_ret, Prog.pure_eq_ret, wp_deviceId]
  iintro ⟨#HR, HO, S0, ⟨S3, S4⟩, ⟨X3, X4⟩, ⟨Ta, Tb⟩, Tc, Td⟩ Hk
  iapply (step_sendX I K c 6 (by decide) 12 rfl _ (dev13 c) (m := 6) rfl rfl rfl) $$ [HO S3 X3 Ta Tb]
  · isplitr; · iexact HR
    isplitl [HO]; · iexact HO
    isplitl [S3]; · iexact S3
    isplitl [X3]; · iexact X3
    isplitl [Ta]; · iexact Ta
    iexact Tb
  iintro ⟨HO, C3⟩
  iapply (step_sendX I K c 7 (by decide) 13 rfl _ (dev14 c) (m := 7) rfl rfl rfl) $$ [HO S4 X4 Tc Td]
  · isplitr; · iexact HR
    isplitl [HO]; · iexact HO
    isplitl [S4]; · iexact S4
    isplitl [X4]; · iexact X4
    isplitl [Tc]; · iexact Tc
    iexact Td
  iintro ⟨HO, C4⟩
  iapply (ld c (Memref.whole cc0_scratch0) (r := rX) (S := slot 0) (f := Xs I c) (rd rX (Xs I c)) (acc_band _ rX_sub) rfl) $$ S0
  iintro S0
  iapply (wpB_ret (F := F))
  iapply Hk
  isplitl [HO]; · iexact HO
  isplitl [S0]; · iexact S0
  isplitl [C3]; · iexact C3
  iexact C4

theorem part10 {Q : _ → sProp 𝕄} (f g) :
    iprop(sw1 c (I.w1 c) ∗ sw2 c (I.w2 c) ∗ xi c (slot 0) f ∗ yo c (slot 0) g)
      ⊢ iprop(((sw1 c (I.w1 c) ∗ sw2 c (I.w2 c) ∗ xi c (slot 0) (Xr I c) ∗ yo c (slot 0) (yw r00 (p00 I c) g)) -∗ Q ⟨k0_pay8 (rd rX (Xr I c)) (W1b I c), W2b I c⟩) -∗ wpB (F := F) c (onBufs (k0_part10 (F := F)) (k0_pay5 (rd rX (Xs I c)))) Q) := by
  rw [k0_part10_eq_skeleton]
  unfold onBufs k0_part10_skel
  simp only [semSignalWord, semWaitWord, Prog.lift, Prog.bind_op, Prog.bind_ret, Prog.pure_eq_ret, wp_deviceId]
  iintro ⟨H1, H2, X0, Y0⟩ Hk
  iapply (ld c (Memref.whole cc0_scratch1) (r := rX) (S := slot 0) (f := f) (rd rX f) (acc_band _ rX_sub) rfl) $$ X0
  iintro X0
  iapply (st c (Memref.whole cc0_scratch1) (r := rX) (S := slot 0) (f := f) (Xr I c) (acc_band _ rX_sub) (fun i hi => own_xr I c f hi)) $$ X0
  iintro X0
  iapply (ld c (Memref.whole cc0_scratch1) (r := rX) (S := slot 0) (f := Xr I c) (rd rX (Xr I c)) (acc_band _ rX_sub) rfl) $$ X0
  iintro X0
  iapply (ld c (Memref.whole cc0_stg2_0) (r := Rect.unit (s := S2x512x1024) ![0, 0, 0] S1x512x1024.size inb_S2x512x1024_S1x512x1024_0_0_0) (S := Finset.univ) (W1a I c) (Finset.subset_univ _) rfl) $$ H1
  iintro H1
  iapply (ld c (Memref.whole cc0_stg3_0) (r := Rect.unit (s := S2x1024x512) ![0, 0, 0] S1x1024x512.size inb_S2x1024x512_S1x1024x512_0_0_0) (S := Finset.univ) (W2a I c) (Finset.subset_univ _) rfl) $$ H2
  iintro H2
  iapply (ld c (Memref.whole cc0_scratch2) (r := r00) (S := slot 0) (f := g) (rd r00 g) (acc_band _ r00_sub) rfl) $$ Y0
  iintro Y0
  iapply (st c (Memref.whole cc0_scratch2) (r := r00) (S := slot 0) (f := g) (yw r00 (p00 I c) g) (acc_band _ r00_sub) (fun _ _ => rfl)) $$ Y0
  iintro Y0
  iapply (ld c (Memref.whole cc0_stg2_0) (r := Rect.unit (s := S2x512x1024) ![1, 0, 0] S1x512x1024.size inb_S2x512x1024_S1x512x1024_1_0_0) (S := Finset.univ) (W1b I c) (Finset.subset_univ _) rfl) $$ H1
  iintro H1
  iapply (ld c (Memref.whole cc0_stg3_0) (r := Rect.unit (s := S2x1024x512) ![1, 0, 0] S1x1024x512.size inb_S2x1024x512_S1x1024x512_1_0_0) (S := Finset.univ) (W2b I c) (Finset.subset_univ _) rfl) $$ H2
  iintro H2
  iapply (wpB_ret (F := F))
  iapply Hk
  isplitl [H1]; · iexact H1
  isplitl [H2]; · iexact H2
  isplitl [X0]; · iexact X0
  iexact Y0

theorem part11 {Q : _ → sProp 𝕄} (w w' f g) :
    iprop(recs I K ∗ OW (F := F) c 14 ∗ yo c (slot 0) (yw r00 (p00 I c) g) ∗ yi c (slot 0) f ∗ rW (F := F) c 1 1)
      ⊢ iprop(((OW (F := F) c 14 ∗ yo c (slot 0) (Ys I c) ∗ yi c (slot 0) (Yr I c) ∗ z (F := F) c 1 1 ∗ xi c (slot 1) (Xr I c)) -∗ Q ⟨⟩) -∗ wpB (F := F) c (onBufs (k0_part11 (F := F)) w w' (k0_pay8 (rd rX (Xr I c)) (W1b I c)) (W2b I c)) Q) := by
  rw [k0_part11_eq_skeleton]
  unfold onBufs k0_part11_skel
  simp only [semSignalWord, semWaitWord, Prog.lift, Prog.bind_op, Prog.bind_ret, Prog.pure_eq_ret, wp_deviceId]
  iintro ⟨#HR, HO, Y0, R0, Hc, Ha⟩ Hk
  iapply (ld c (Memref.whole cc0_scratch2) (r := r01) (S := slot 0) (f := yw r00 (p00 I c) g) (rd r01 (yw r00 (p00 I c) g)) (acc_band _ r01_sub) rfl) $$ Y0
  iintro Y0
  iapply (st c (Memref.whole cc0_scratch2) (r := r01) (S := slot 0) (f := yw r00 (p00 I c) g) (Ys I c) (acc_band _ r01_sub) (fun i hi => ys_band0 I c g (by rw [band_slot (by decide)]; exact hi))) $$ Y0
  iintro Y0
  iapply (ld c (Memref.whole cc0_scratch2) (r := rX) (S := slot 0) (f := Ys I c) (rd rX (Ys I c)) (acc_band _ rX_sub) rfl) $$ Y0
  iintro Y0
  iapply (ld c (Memref.whole cc0_scratch3) (r := rX) (S := slot 0) (f := f) (rd rX f) (acc_band _ rX_sub) rfl) $$ R0
  iintro R0
  iapply (st c (Memref.whole cc0_scratch3) (r := rX) (S := slot 0) (f := f) (Yr I c) (acc_band _ rX_sub) (fun i hi => own_yr I c f hi)) $$ R0
  iintro R0
  iapply (step_waitP I K c 1 1 (by decide) 14 (by decide) _ (dmaPay1 I c 1) rfl credit1) $$ [HO Hc Ha]
  · isplitr; · iexact HR
    isplitl [HO]; · iexact HO
    isplitl [Hc]; · iexact Hc
    iexact Ha
  iintro ⟨HO, Hz, Hp⟩
  iapply (wpB_ret (F := F))
  iapply Hk
  isplitl [HO]; · iexact HO
  isplitl [Y0]; · iexact Y0
  isplitl [R0]; · iexact R0
  isplitl [Hz]; · iexact Hz
  iexact Hp

theorem part12 {Q : _ → sProp 𝕄} (g) :
    iprop(recs I K ∗ OW (F := F) c 14 ∗ rW (F := F) c 1 2 ∗ xi c (slot 1) (Xr I c) ∗ sw1 c (I.w1 c) ∗ sw2 c (I.w2 c) ∗ yo c (band 1 3) g)
      ⊢ iprop(((OW (F := F) c 14 ∗ z (F := F) c 1 2 ∗ xi c (band 1 3) (Xr I c) ∗ sw1 c (I.w1 c) ∗ sw2 c (I.w2 c) ∗ yo c (band 1 3) (yw r10 (p10 I c) g)) -∗ Q (k0_pay12 (rd rX1 (Xr I c)) (W1b I c))) -∗ wpB (F := F) c (onBufs (k0_part12 (F := F))) Q) := by
  rw [k0_part12_eq_skeleton]
  unfold onBufs k0_part12_skel
  simp only [semSignalWord, semWaitWord, Prog.lift, Prog.bind_op, Prog.bind_ret, Prog.pure_eq_ret, wp_deviceId]
  iintro ⟨#HR, HO, ⟨Hc, Ha⟩, X1, H1, H2, Y⟩ Hk
  iapply (step_waitP I K c 1 2 (by decide) 14 (by decide) _ (dmaPay1 I c 2) rfl credit1) $$ [HO Hc Ha]
  · isplitr; · iexact HR
    isplitl [HO]; · iexact HO
    isplitl [Hc]; · iexact Hc
    iexact Ha
  iintro ⟨HO, Hz, Hp⟩
  ihave X := (split_13 (F := F) (A := fun S => xi c S (Xr I c)) (xi_union (F := F) c (Xr I c))).2 $$ [X1 Hp]
  · isplitl [X1]; · iexact X1
    iexact Hp
  iapply (ld c (Memref.whole cc0_scratch1) (r := rX1) (S := band 1 3) (f := Xr I c) (rd rX1 (Xr I c)) (acc_band _ rX1_sub) rfl) $$ X
  iintro X
  iapply (ld c (Memref.whole cc0_stg2_0) (r := Rect.unit (s := S2x512x1024) ![0, 0, 0] S1x512x1024.size inb_S2x512x1024_S1x512x1024_0_0_0) (S := Finset.univ) (W1a I c) (Finset.subset_univ _) rfl) $$ H1
  iintro H1
  iapply (ld c (Memref.whole cc0_stg3_0) (r := Rect.unit (s := S2x1024x512) ![0, 0, 0] S1x1024x512.size inb_S2x1024x512_S1x1024x512_0_0_0) (S := Finset.univ) (W2a I c) (Finset.subset_univ _) rfl) $$ H2
  iintro H2
  iapply (ld c (Memref.whole cc0_scratch2) (r := r10) (S := band 1 3) (f := g) (rd r10 g) (acc_band _ r10_sub) rfl) $$ Y
  iintro Y
  iapply (st c (Memref.whole cc0_scratch2) (r := r10) (S := band 1 3) (f := g) (yw r10 (p10 I c) g) (acc_band _ r10_sub) (fun _ _ => rfl)) $$ Y
  iintro Y
  iapply (ld c (Memref.whole cc0_stg2_0) (r := Rect.unit (s := S2x512x1024) ![1, 0, 0] S1x512x1024.size inb_S2x512x1024_S1x512x1024_1_0_0) (S := Finset.univ) (W1b I c) (Finset.subset_univ _) rfl) $$ H1
  iintro H1
  iapply (wpB_ret (F := F))
  iapply Hk
  isplitl [HO]; · iexact HO
  isplitl [Hz]; · iexact Hz
  isplitl [X]; · iexact X
  isplitl [H1]; · iexact H1
  isplitl [H2]; · iexact H2
  iexact Y

theorem part13 {Q : _ → sProp 𝕄} (g) :
    iprop(recs I K ∗ OW (F := F) c 14 ∗ sw2 c (I.w2 c) ∗ yo c (band 1 3) (yw r10 (p10 I c) g) ∗ yTgt (F := F) c 1 ∗ yT (F := F) c 1)
      ⊢ iprop((∀ v v', (OW (F := F) c 15 ∗ sw2 c (I.w2 c) ∗ yo c (slot 2) (Ys I c) ∗ cr (F := F) c 2 1) -∗ Q ⟨v, v', 8#32⟩) -∗ wpB (F := F) c (onBufs (k0_part13 (F := F)) c (pos c) (k0_pay12 (rd rX1 (Xr I c)) (W1b I c))) Q) := by
  rw [k0_part13_eq_skeleton]
  unfold onBufs k0_part13_skel
  simp only [semSignalWord, semWaitWord, Prog.lift, Prog.bind_op, Prog.bind_ret, Prog.pure_eq_ret, wp_deviceId]
  iintro ⟨#HR, HO, H2, Y, X1, Ta, Tb⟩ Hk
  iapply (ld c (Memref.whole cc0_stg3_0) (r := Rect.unit (s := S2x1024x512) ![1, 0, 0] S1x1024x512.size inb_S2x1024x512_S1x1024x512_1_0_0) (S := Finset.univ) (W2b I c) (Finset.subset_univ _) rfl) $$ H2
  iintro H2
  iapply (ld c (Memref.whole cc0_scratch2) (r := r11) (S := band 1 3) (f := yw r10 (p10 I c) g) (rd r11 (yw r10 (p10 I c) g)) (acc_band _ r11_sub) rfl) $$ Y
  iintro Y
  iapply (st c (Memref.whole cc0_scratch2) (r := r11) (S := band 1 3) (f := yw r10 (p10 I c) g) (Ys I c) (acc_band _ r11_sub) (fun i hi => ys_band1 I c g hi)) $$ Y
  iintro Y
  ihave ⟨S1, S2⟩ := (split_13 (F := F) (A := fun S => yo c S (Ys I c)) (yo_union (F := F) c (Ys I c))).1 $$ Y
  iapply (step_sendY I K c 1 (by decide) 14 rfl _ (dev15 c) (m := 1) rfl rfl rfl) $$ [HO S1 X1 Ta Tb]
  · isplitr; · iexact HR
    isplitl [HO]; · iexact HO
    isplitl [S1]; · iexact S1
    isplitl [X1]; · iexact X1
    isplitl [Ta]; · iexact Ta
    iexact Tb
  iintro ⟨HO, C1⟩
  iapply (wpB_ret (F := F))
  iapply Hk
  isplitl [HO]; · iexact HO
  isplitl [H2]; · iexact H2
  isplitl [S2]; · iexact S2
  iexact C1

theorem part14 {Q : _ → sProp 𝕄} (w1 w2 w3) :
    iprop(recs I K ∗ OW (F := F) c 15 ∗ yo c (slot 2) (Ys I c) ∗ yTgt (F := F) c 2 ∗ yT (F := F) c 2 ∗ rW (F := F) c 1 3)
      ⊢ iprop((∀ v, (OW (F := F) c 16 ∗ cr (F := F) c 2 2 ∗ z (F := F) c 1 3 ∗ xi c (slot 3) (Xr I c)) -∗ Q v) -∗ wpB (F := F) c (onBufs (k0_part14 (F := F)) c w1 w2 w3) Q) := by
  rw [k0_part14_eq_skeleton]
  unfold onBufs k0_part14_skel
  simp only [semSignalWord, semWaitWord, Prog.lift, Prog.bind_op, Prog.bind_ret, Prog.pure_eq_ret, wp_deviceId]
  iintro ⟨#HR, HO, S1, X1, ⟨Ta, Tb⟩, Hc, Ha⟩ Hk
  iapply (step_sendY I K c 2 (by decide) 15 rfl _ (dev16 c) (m := 2) rfl rfl rfl) $$ [HO S1 X1 Ta Tb]
  · isplitr; · iexact HR
    isplitl [HO]; · iexact HO
    isplitl [S1]; · iexact S1
    isplitl [X1]; · iexact X1
    isplitl [Ta]; · iexact Ta
    iexact Tb
  iintro ⟨HO, C1⟩
  iapply (step_waitP I K c 1 3 (by decide) 16 (by decide) _ (dmaPay1 I c 3) rfl credit1) $$ [HO Hc Ha]
  · isplitr; · iexact HR
    isplitl [HO]; · iexact HO
    isplitl [Hc]; · iexact Hc
    iexact Ha
  iintro ⟨HO, Hz, Hp⟩
  iapply (wpB_ret (F := F))
  iapply Hk
  isplitl [HO]; · iexact HO
  isplitl [C1]; · iexact C1
  isplitl [Hz]; · iexact Hz
  iexact Hp

theorem part15 {Q : _ → sProp 𝕄} (w g) :
    iprop(recs I K ∗ OW (F := F) c 16 ∗ rW (F := F) c 1 4 ∗ xi c (slot 3) (Xr I c) ∗ sw1 c (I.w1 c) ∗ sw2 c (I.w2 c) ∗ yo c (band 3 5) g)
      ⊢ iprop(((OW (F := F) c 16 ∗ z (F := F) c 1 4 ∗ xi c (band 3 5) (Xr I c) ∗ sw1 c (I.w1 c) ∗ sw2 c (I.w2 c) ∗ yo c (band 3 5) (yw r30 (p30 I c) g)) -∗ Q (k0_pay15 (rd rX3 (Xr I c)))) -∗ wpB (F := F) c (onBufs (k0_part15 (F := F)) w) Q) := by
  rw [k0_part15_eq_skeleton]
  unfold onBufs k0_part15_skel
  simp only [semSignalWord, semWaitWord, Prog.lift, Prog.bind_op, Prog.bind_ret, Prog.pure_eq_ret, wp_deviceId]
  iintro ⟨#HR, HO, ⟨Hc, Ha⟩, X1, H1, H2, Y⟩ Hk
  iapply (step_waitP I K c 1 4 (by decide) 16 (by decide) _ (dmaPay1 I c 4) rfl credit1) $$ [HO Hc Ha]
  · isplitr; · iexact HR
    isplitl [HO]; · iexact HO
    isplitl [Hc]; · iexact Hc
    iexact Ha
  iintro ⟨HO, Hz, Hp⟩
  ihave X := (split_35 (F := F) (A := fun S => xi c S (Xr I c)) (xi_union (F := F) c (Xr I c))).2 $$ [X1 Hp]
  · isplitl [X1]; · iexact X1
    iexact Hp
  iapply (ld c (Memref.whole cc0_scratch1) (r := rX3) (S := band 3 5) (f := Xr I c) (rd rX3 (Xr I c)) (acc_band _ rX3_sub) rfl) $$ X
  iintro X
  iapply (ld c (Memref.whole cc0_stg2_0) (r := Rect.unit (s := S2x512x1024) ![0, 0, 0] S1x512x1024.size inb_S2x512x1024_S1x512x1024_0_0_0) (S := Finset.univ) (W1a I c) (Finset.subset_univ _) rfl) $$ H1
  iintro H1
  iapply (ld c (Memref.whole cc0_stg3_0) (r := Rect.unit (s := S2x1024x512) ![0, 0, 0] S1x1024x512.size inb_S2x1024x512_S1x1024x512_0_0_0) (S := Finset.univ) (W2a I c) (Finset.subset_univ _) rfl) $$ H2
  iintro H2
  iapply (ld c (Memref.whole cc0_scratch2) (r := r30) (S := band 3 5) (f := g) (rd r30 g) (acc_band _ r30_sub) rfl) $$ Y
  iintro Y
  iapply (st c (Memref.whole cc0_scratch2) (r := r30) (S := band 3 5) (f := g) (yw r30 (p30 I c) g) (acc_band _ r30_sub) (fun _ _ => rfl)) $$ Y
  iintro Y
  iapply (wpB_ret (F := F))
  iapply Hk
  isplitl [HO]; · iexact HO
  isplitl [Hz]; · iexact Hz
  isplitl [X]; · iexact X
  isplitl [H1]; · iexact H1
  isplitl [H2]; · iexact H2
  iexact Y

theorem part16 {Q : _ → sProp 𝕄} (g) :
    iprop(sw1 c (I.w1 c) ∗ sw2 c (I.w2 c) ∗ yo c (band 3 5) (yw r30 (p30 I c) g))
      ⊢ iprop((∀ v, (sw1 c (I.w1 c) ∗ sw2 c (I.w2 c) ∗ yo c (band 3 5) (Ys I c)) -∗ Q v) -∗ wpB (F := F) c (onBufs (k0_part16 (F := F)) (pos c) (k0_pay15 (rd rX3 (Xr I c)))) Q) := by
  rw [k0_part16_eq_skeleton]
  unfold onBufs k0_part16_skel
  simp only [semSignalWord, semWaitWord, Prog.lift, Prog.bind_op, Prog.bind_ret, Prog.pure_eq_ret, wp_deviceId]
  iintro ⟨H1, H2, Y⟩ Hk
  iapply (ld c (Memref.whole cc0_stg2_0) (r := Rect.unit (s := S2x512x1024) ![1, 0, 0] S1x512x1024.size inb_S2x512x1024_S1x512x1024_1_0_0) (S := Finset.univ) (W1b I c) (Finset.subset_univ _) rfl) $$ H1
  iintro H1
  iapply (ld c (Memref.whole cc0_stg3_0) (r := Rect.unit (s := S2x1024x512) ![1, 0, 0] S1x1024x512.size inb_S2x1024x512_S1x1024x512_1_0_0) (S := Finset.univ) (W2b I c) (Finset.subset_univ _) rfl) $$ H2
  iintro H2
  iapply (ld c (Memref.whole cc0_scratch2) (r := r31) (S := band 3 5) (f := yw r30 (p30 I c) g) (rd r31 (yw r30 (p30 I c) g)) (acc_band _ r31_sub) rfl) $$ Y
  iintro Y
  iapply (st c (Memref.whole cc0_scratch2) (r := r31) (S := band 3 5) (f := yw r30 (p30 I c) g) (Ys I c) (acc_band _ r31_sub) (fun i hi => ys_band3 I c g hi)) $$ Y
  iintro Y
  iapply (wpB_ret (F := F))
  iapply Hk
  isplitl [H1]; · iexact H1
  isplitl [H2]; · iexact H2
  iexact Y

theorem part17 {Q : _ → sProp 𝕄} (w) :
    iprop(recs I K ∗ OW (F := F) c 16 ∗ yo c (band 3 5) (Ys I c) ∗ (yTgt (F := F) c 3 ∗ yTgt (F := F) c 4) ∗ (yT (F := F) c 3 ∗ yT (F := F) c 4))
      ⊢ iprop((∀ v, (OW (F := F) c 18 ∗ cr (F := F) c 2 3 ∗ cr (F := F) c 2 4) -∗ Q v) -∗ wpB (F := F) c (onBufs (k0_part17 (F := F)) c (pos c) w) Q) := by
  rw [k0_part17_eq_skeleton]
  unfold onBufs k0_part17_skel
  simp only [semSignalWord, semWaitWord, Prog.lift, Prog.bind_op, Prog.bind_ret, Prog.pure_eq_ret, wp_deviceId]
  iintro ⟨#HR, HO, S, ⟨X3, X4⟩, ⟨Ta, Tb⟩, Tc, Td⟩ Hk
  ihave ⟨S3, S4⟩ := (split_35 (F := F) (A := fun S => yo c S (Ys I c)) (yo_union (F := F) c (Ys I c))).1 $$ S
  iapply (step_sendY I K c 3 (by decide) 16 rfl _ (dev17 c) (m := 3) rfl rfl rfl) $$ [HO S3 X3 Ta Tb]
  · isplitr; · iexact HR
    isplitl [HO]; · iexact HO
    isplitl [S3]; · iexact S3
    isplitl [X3]; · iexact X3
    isplitl [Ta]; · iexact Ta
    iexact Tb
  iintro ⟨HO, C3⟩
  iapply (step_sendY I K c 4 (by decide) 17 rfl _ (dev18 c) (m := 4) rfl rfl rfl) $$ [HO S4 X4 Tc Td]
  · isplitr; · iexact HR
    isplitl [HO]; · iexact HO
    isplitl [S4]; · iexact S4
    isplitl [X4]; · iexact X4
    isplitl [Tc]; · iexact Tc
    iexact Td
  iintro ⟨HO, C4⟩
  iapply (wpB_ret (F := F))
  iapply Hk
  isplitl [HO]; · iexact HO
  isplitl [C3]; · iexact C3
  iexact C4

theorem part18 {Q : _ → sProp 𝕄} (w w') :
    iprop(recs I K ∗ OW (F := F) c 18 ∗ rW (F := F) c 1 5 ∗ rW (F := F) c 1 6 ∗ rW (F := F) c 1 7)
      ⊢ iprop(((OW (F := F) c 18 ∗ z (F := F) c 1 5 ∗ z (F := F) c 1 6 ∗ z (F := F) c 1 7 ∗ xi c (band 5 8) (Xr I c)) -∗ Q ⟨rd rX5 (Xr I c), k0_pay17 (rd rX5 (Xr I c))⟩) -∗ wpB (F := F) c (onBufs (k0_part18 (F := F)) w w') Q) := by
  rw [k0_part18_eq_skeleton]
  unfold onBufs k0_part18_skel
  simp only [semSignalWord, semWaitWord, Prog.lift, Prog.bind_op, Prog.bind_ret, Prog.pure_eq_ret, wp_deviceId]
  iintro ⟨#HR, HO, ⟨A1, B1⟩, ⟨A2, B2⟩, A3, B3⟩ Hk
  iapply (step_waitP I K c 1 5 (by decide) 18 (by decide) _ (dmaPay1 I c 5) rfl credit1) $$ [HO A1 B1]
  · isplitr; · iexact HR
    isplitl [HO]; · iexact HO
    isplitl [A1]; · iexact A1
    iexact B1
  iintro ⟨HO, Z1, P1⟩
  iapply (step_waitP I K c 1 6 (by decide) 18 (by decide) _ (dmaPay1 I c 6) rfl credit1) $$ [HO A2 B2]
  · isplitr; · iexact HR
    isplitl [HO]; · iexact HO
    isplitl [A2]; · iexact A2
    iexact B2
  iintro ⟨HO, Z2, P2⟩
  iapply (step_waitP I K c 1 7 (by decide) 18 (by decide) _ (dmaPay1 I c 7) rfl credit1) $$ [HO A3 B3]
  · isplitr; · iexact HR
    isplitl [HO]; · iexact HO
    isplitl [A3]; · iexact A3
    iexact B3
  iintro ⟨HO, Z3, P3⟩
  ihave X := (split_58 (F := F) (A := fun S => xi c S (Xr I c)) (xi_union (F := F) c (Xr I c))).2 $$ [P1 P2 P3]
  · isplitl [P1]; · iexact P1
    isplitl [P2]; · iexact P2
    iexact P3
  iapply (ld c (Memref.whole cc0_scratch1) (r := rX5) (S := band 5 8) (f := Xr I c) (rd rX5 (Xr I c)) (acc_band _ rX5_sub) rfl) $$ X
  iintro X
  iapply (wpB_ret (F := F))
  iapply Hk
  isplitl [HO]; · iexact HO
  isplitl [Z1]; · iexact Z1
  isplitl [Z2]; · iexact Z2
  isplitl [Z3]; · iexact Z3
  iexact X

theorem part19 {Q : _ → sProp 𝕄} (g) :
    iprop(sw1 c (I.w1 c) ∗ sw2 c (I.w2 c) ∗ yo c (band 5 8) g)
      ⊢ iprop(((sw1 c (I.w1 c) ∗ sw2 c (I.w2 c) ∗ yo c (band 5 8) (Ys I c)) -∗ Q 5#32) -∗ wpB (F := F) c (onBufs (k0_part19 (F := F)) (rd rX5 (Xr I c)) (k0_pay17 (rd rX5 (Xr I c)))) Q) := by
  rw [k0_part19_eq_skeleton]
  unfold onBufs k0_part19_skel
  simp only [semSignalWord, semWaitWord, Prog.lift, Prog.bind_op, Prog.bind_ret, Prog.pure_eq_ret, wp_deviceId]
  iintro ⟨H1, H2, Y⟩ Hk
  iapply (ld c (Memref.whole cc0_stg2_0) (r := Rect.unit (s := S2x512x1024) ![0, 0, 0] S1x512x1024.size inb_S2x512x1024_S1x512x1024_0_0_0) (S := Finset.univ) (W1a I c) (Finset.subset_univ _) rfl) $$ H1
  iintro H1
  iapply (ld c (Memref.whole cc0_stg3_0) (r := Rect.unit (s := S2x1024x512) ![0, 0, 0] S1x1024x512.size inb_S2x1024x512_S1x1024x512_0_0_0) (S := Finset.univ) (W2a I c) (Finset.subset_univ _) rfl) $$ H2
  iintro H2
  iapply (ld c (Memref.whole cc0_scratch2) (r := r50) (S := band 5 8) (f := g) (rd r50 g) (acc_band _ r50_sub) rfl) $$ Y
  iintro Y
  iapply (st c (Memref.whole cc0_scratch2) (r := r50) (S := band 5 8) (f := g) (yw r50 (p50 I c) g) (acc_band _ r50_sub) (fun _ _ => rfl)) $$ Y
  iintro Y
  iapply (ld c (Memref.whole cc0_stg2_0) (r := Rect.unit (s := S2x512x1024) ![1, 0, 0] S1x512x1024.size inb_S2x512x1024_S1x512x1024_1_0_0) (S := Finset.univ) (W1b I c) (Finset.subset_univ _) rfl) $$ H1
  iintro H1
  iapply (ld c (Memref.whole cc0_stg3_0) (r := Rect.unit (s := S2x1024x512) ![1, 0, 0] S1x1024x512.size inb_S2x1024x512_S1x1024x512_1_0_0) (S := Finset.univ) (W2b I c) (Finset.subset_univ _) rfl) $$ H2
  iintro H2
  iapply (ld c (Memref.whole cc0_scratch2) (r := r51) (S := band 5 8) (f := yw r50 (p50 I c) g) (rd r51 (yw r50 (p50 I c) g)) (acc_band _ r51_sub) rfl) $$ Y
  iintro Y
  iapply (st c (Memref.whole cc0_scratch2) (r := r51) (S := band 5 8) (f := yw r50 (p50 I c) g) (Ys I c) (acc_band _ r51_sub) (fun i hi => ys_band5 I c g hi)) $$ Y
  iintro Y
  iapply (wpB_ret (F := F))
  iapply Hk
  isplitl [H1]; · iexact H1
  isplitl [H2]; · iexact H2
  iexact Y

theorem part20 {Q : _ → sProp 𝕄} (w) :
    iprop(recs I K ∗ OW (F := F) c 18 ∗ yo c (slot 5) (Ys I c) ∗ yTgt (F := F) c 5 ∗ yT (F := F) c 5)
      ⊢ iprop((∀ v v', (OW (F := F) c 19 ∗ cr (F := F) c 2 5) -∗ Q ⟨v, v'⟩) -∗ wpB (F := F) c (onBufs (k0_part20 (F := F)) c (pos c) w) Q) := by
  rw [k0_part20_eq_skeleton]
  unfold onBufs k0_part20_skel
  simp only [semSignalWord, semWaitWord, Prog.lift, Prog.bind_op, Prog.bind_ret, Prog.pure_eq_ret, wp_deviceId]
  iintro ⟨#HR, HO, S2, X2, Ta, Tb⟩ Hk
  iapply (step_sendY I K c 5 (by decide) 18 rfl _ (dev19 c) (m := 5) rfl rfl rfl) $$ [HO S2 X2 Ta Tb]
  · isplitr; · iexact HR
    isplitl [HO]; · iexact HO
    isplitl [S2]; · iexact S2
    isplitl [X2]; · iexact X2
    isplitl [Ta]; · iexact Ta
    iexact Tb
  iintro ⟨HO, C2⟩
  iapply (wpB_ret (F := F))
  iapply Hk
  isplitl [HO]; · iexact HO
  iexact C2

theorem part21 {Q : _ → sProp 𝕄} (w) :
    iprop(recs I K ∗ OW (F := F) c 19 ∗ yo c (slot 6) (Ys I c) ∗ yTgt (F := F) c 6 ∗ yT (F := F) c 6)
      ⊢ iprop((∀ v, (OW (F := F) c 20 ∗ cr (F := F) c 2 6) -∗ Q v) -∗ wpB (F := F) c (onBufs (k0_part21 (F := F)) c (pos c) w) Q) := by
  rw [k0_part21_eq_skeleton]
  unfold onBufs k0_part21_skel
  simp only [semSignalWord, semWaitWord, Prog.lift, Prog.bind_op, Prog.bind_ret, Prog.pure_eq_ret, wp_deviceId]
  iintro ⟨#HR, HO, S2, X2, Ta, Tb⟩ Hk
  iapply (step_sendY I K c 6 (by decide) 19 rfl _ (dev20 c) (m := 6) rfl rfl rfl) $$ [HO S2 X2 Ta Tb]
  · isplitr; · iexact HR
    isplitl [HO]; · iexact HO
    isplitl [S2]; · iexact S2
    isplitl [X2]; · iexact X2
    isplitl [Ta]; · iexact Ta
    iexact Tb
  iintro ⟨HO, C2⟩
  iapply (wpB_ret (F := F))
  iapply Hk
  isplitl [HO]; · iexact HO
  iexact C2

end

end Cert.KernelIdeal.Moe

end
-- ==== Proof.Parts3.lean ====
/-
The pieces of the body, one after another: each takes what it uses and leaves what it makes.
-/
module

public import proofs.«01_k».proof.Proof.Parts2

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (I : Ins F) (K : Dev nD × Fin 34 → ℕ) (c : Dev nD)

theorem part22 {Q : _ → sProp 𝕄} (w w') :
    iprop(recs I K ∗ OW (F := F) c 20 ∗ yo c (slot 7) (Ys I c) ∗ yTgt (F := F) c 7 ∗ yT (F := F) c 7 ∗ yi c (slot 0) (Yr I c) ∗ rW (F := F) c 3 1 ∗ rW (F := F) c 3 2)
      ⊢ iprop(((OW (F := F) c 21 ∗ cr (F := F) c 2 7 ∗ yi c (slot 0) (Yr I c) ∗ z (F := F) c 3 1 ∗ z (F := F) c 3 2 ∗ yi c (band 1 3) (Yr I c)) -∗ Q ⟨k0_pay20 (P I c) (rd rX (Yr I c)), k0_pay21 (P I c), rd rX1 (Yr I c)⟩) -∗ wpB (F := F) c (onBufs (k0_part22 (F := F)) c (P I c) w w') Q) := by
  rw [k0_part22_eq_skeleton]
  unfold onBufs k0_part22_skel
  simp only [semSignalWord, semWaitWord, Prog.lift, Prog.bind_op, Prog.bind_ret, Prog.pure_eq_ret, wp_deviceId]
  iintro ⟨#HR, HO, S2, X2, ⟨Ta, Tb⟩, R0, ⟨A1, B1⟩, A2, B2⟩ Hk
  iapply (step_sendY I K c 7 (by decide) 20 rfl _ (dev21 c) (m := 7) rfl rfl rfl) $$ [HO S2 X2 Ta Tb]
  · isplitr; · iexact HR
    isplitl [HO]; · iexact HO
    isplitl [S2]; · iexact S2
    isplitl [X2]; · iexact X2
    isplitl [Ta]; · iexact Ta
    iexact Tb
  iintro ⟨HO, C2⟩
  iapply (ld c (Memref.whole cc0_scratch3) (r := rX) (S := slot 0) (f := Yr I c) (rd rX (Yr I c)) (acc_band _ rX_sub) rfl) $$ R0
  iintro R0
  iapply (step_waitP I K c 3 1 (by decide) 21 (by decide) _ (dmaPay3 I c 1) rfl credit3) $$ [HO A1 B1]
  · isplitr; · iexact HR
    isplitl [HO]; · iexact HO
    isplitl [A1]; · iexact A1
    iexact B1
  iintro ⟨HO, Z1, P1⟩
  iapply (step_waitP I K c 3 2 (by decide) 21 (by decide) _ (dmaPay3 I c 2) rfl credit3) $$ [HO A2 B2]
  · isplitr; · iexact HR
    isplitl [HO]; · iexact HO
    isplitl [A2]; · iexact A2
    iexact B2
  iintro ⟨HO, Z2, P2⟩
  ihave Y := (split_13 (F := F) (A := fun S => yi c S (Yr I c)) (yi_union (F := F) c (Yr I c))).2 $$ [P1 P2]
  · isplitl [P1]; · iexact P1
    iexact P2
  iapply (ld c (Memref.whole cc0_scratch3) (r := rX1) (S := band 1 3) (f := Yr I c) (rd rX1 (Yr I c)) (acc_band _ rX1_sub) rfl) $$ Y
  iintro Y
  iapply (wpB_ret (F := F))
  iapply Hk
  isplitl [HO]; · iexact HO
  isplitl [C2]; · iexact C2
  isplitl [R0]; · iexact R0
  isplitl [Z1]; · iexact Z1
  isplitl [Z2]; · iexact Z2
  iexact Y

theorem part23 {Q : _ → sProp 𝕄} (w w') :
    iprop(recs I K ∗ OW (F := F) c 21 ∗ rW (F := F) c 3 3 ∗ rW (F := F) c 3 4)
      ⊢ iprop(((OW (F := F) c 21 ∗ z (F := F) c 3 3 ∗ z (F := F) c 3 4 ∗ yi c (band 3 5) (Yr I c)) -∗ Q (k0_pay22 (P I c) (k0_pay20 (P I c) (rd rX (Yr I c))) (k0_pay21 (P I c)) (rd rX1 (Yr I c)) (rd rX3 (Yr I c)))) -∗ wpB (F := F) c (onBufs (k0_part23 (F := F)) (P I c) w w' (k0_pay20 (P I c) (rd rX (Yr I c))) (k0_pay21 (P I c)) (rd rX1 (Yr I c))) Q) := by
  rw [k0_part23_eq_skeleton]
  unfold onBufs k0_part23_skel
  simp only [semSignalWord, semWaitWord, Prog.lift, Prog.bind_op, Prog.bind_ret, Prog.pure_eq_ret, wp_deviceId]
  iintro ⟨#HR, HO, ⟨A1, B1⟩, A2, B2⟩ Hk
  iapply (step_waitP I K c 3 3 (by decide) 21 (by decide) _ (dmaPay3 I c 3) rfl credit3) $$ [HO A1 B1]
  · isplitr; · iexact HR
    isplitl [HO]; · iexact HO
    isplitl [A1]; · iexact A1
    iexact B1
  iintro ⟨HO, Z1, P1⟩
  iapply (step_waitP I K c 3 4 (by decide) 21 (by decide) _ (dmaPay3 I c 4) rfl credit3) $$ [HO A2 B2]
  · isplitr; · iexact HR
    isplitl [HO]; · iexact HO
    isplitl [A2]; · iexact A2
    iexact B2
  iintro ⟨HO, Z2, P2⟩
  ihave Y := (split_35 (F := F) (A := fun S => yi c S (Yr I c)) (yi_union (F := F) c (Yr I c))).2 $$ [P1 P2]
  · isplitl [P1]; · iexact P1
    iexact P2
  iapply (ld c (Memref.whole cc0_scratch3) (r := rX3) (S := band 3 5) (f := Yr I c) (rd rX3 (Yr I c)) (acc_band _ rX3_sub) rfl) $$ Y
  iintro Y
  iapply (wpB_ret (F := F))
  iapply Hk
  isplitl [HO]; · iexact HO
  isplitl [Z1]; · iexact Z1
  isplitl [Z2]; · iexact Z2
  iexact Y

theorem part24 {Q : _ → sProp 𝕄} (w w' w'') :
    iprop(recs I K ∗ OW (F := F) c 21 ∗ rW (F := F) c 3 5 ∗ rW (F := F) c 3 6)
      ⊢ iprop(((OW (F := F) c 21 ∗ z (F := F) c 3 5 ∗ z (F := F) c 3 6 ∗ yi c (slot 5) (Yr I c) ∗ yi c (slot 6) (Yr I c)) -∗ Q ⟨⟩) -∗ wpB (F := F) c (onBufs (k0_part24 (F := F)) w w' w'') Q) := by
  rw [k0_part24_eq_skeleton]
  unfold onBufs k0_part24_skel
  simp only [semSignalWord, semWaitWord, Prog.lift, Prog.bind_op, Prog.bind_ret, Prog.pure_eq_ret, wp_deviceId]
  iintro ⟨#HR, HO, ⟨A1, B1⟩, A2, B2⟩ Hk
  iapply (step_waitP I K c 3 5 (by decide) 21 (by decide) _ (dmaPay3 I c 5) rfl credit3) $$ [HO A1 B1]
  · isplitr; · iexact HR
    isplitl [HO]; · iexact HO
    isplitl [A1]; · iexact A1
    iexact B1
  iintro ⟨HO, Z1, P1⟩
  iapply (step_waitP I K c 3 6 (by decide) 21 (by decide) _ (dmaPay3 I c 6) rfl credit3) $$ [HO A2 B2]
  · isplitr; · iexact HR
    isplitl [HO]; · iexact HO
    isplitl [A2]; · iexact A2
    iexact B2
  iintro ⟨HO, Z2, P2⟩
  iapply (wpB_ret (F := F))
  iapply Hk
  isplitl [HO]; · iexact HO
  isplitl [Z1]; · iexact Z1
  isplitl [Z2]; · iexact Z2
  isplitl [P1]; · iexact P1
  iexact P2

theorem part25 {Q : _ → sProp 𝕄} (f) :
    iprop(recs I K ∗ OW (F := F) c 21 ∗ rW (F := F) c 3 7 ∗ yi c (slot 5) (Yr I c) ∗ yi c (slot 6) (Yr I c) ∗ so c f ∗ rW (F := F) c 0 1 ∗ rW (F := F) c 2 1)
      ⊢ iprop(((OW (F := F) c 21 ∗ z (F := F) c 3 7 ∗ yi c (band 5 8) (Yr I c) ∗ so c (outAt I c) ∗ z (F := F) c 0 1 ∗ xo c (slot 1) (Xs I c) ∗ z (F := F) c 2 1 ∗ yo c (slot 1) (Ys I c)) -∗ Q ⟨⟩) -∗ wpB (F := F) c (onBufs (k0_part25 (F := F)) (P I c) (k0_pay22 (P I c) (k0_pay20 (P I c) (rd rX (Yr I c))) (k0_pay21 (P I c)) (rd rX1 (Yr I c)) (rd rX3 (Yr I c)))) Q) := by
  rw [k0_part25_eq_skeleton]
  unfold onBufs k0_part25_skel
  simp only [semSignalWord, semWaitWord, Prog.lift, Prog.bind_op, Prog.bind_ret, Prog.pure_eq_ret, wp_deviceId]
  iintro ⟨#HR, HO, ⟨A1, B1⟩, R5, R6, Ho, ⟨A2, B2⟩, A3, B3⟩ Hk
  iapply (step_waitP I K c 3 7 (by decide) 21 (by decide) _ (dmaPay3 I c 7) rfl credit3) $$ [HO A1 B1]
  · isplitr; · iexact HR
    isplitl [HO]; · iexact HO
    isplitl [A1]; · iexact A1
    iexact B1
  iintro ⟨HO, Z1, P1⟩
  ihave Y := (split_58 (F := F) (A := fun S => yi c S (Yr I c)) (yi_union (F := F) c (Yr I c))).2 $$ [R5 R6 P1]
  · isplitl [R5]; · iexact R5
    isplitl [R6]; · iexact R6
    iexact P1
  iapply (ld c (Memref.whole cc0_scratch3) (r := rX5) (S := band 5 8) (f := Yr I c) (rd rX5 (Yr I c)) (acc_band _ rX5_sub) rfl) $$ Y
  iintro Y
  iapply (ld c (Memref.whole cc0_stg4_0) (r := Rect.unit (s := S512x512) ![0, 0] S512x512.size inb_S512x512_S512x512_0_0) (S := Finset.univ) (f := f) (rd (Rect.unit (s := S512x512) ![0, 0] S512x512.size inb_S512x512_S512x512_0_0) f) (Finset.subset_univ _) rfl) $$ Ho
  iintro Ho
  iapply (st c (Memref.whole cc0_stg4_0) (r := Rect.unit (s := S512x512) ![0, 0] S512x512.size inb_S512x512_S512x512_0_0) (S := Finset.univ) (f := f) (outAt I c) (Finset.subset_univ _) (fun i _ => congrFun (Memref.write_access_unit_zero_univ (Elt F) cc0_stg4_0 (by decide) _ f _) i)) $$ Ho
  iintro Ho
  iapply (step_waitP I K c 0 1 (by decide) 21 (by decide) _ (dmaPay0 I c 1) rfl credit0) $$ [HO A2 B2]
  · isplitr; · iexact HR
    isplitl [HO]; · iexact HO
    isplitl [A2]; · iexact A2
    iexact B2
  iintro ⟨HO, Z2, P2⟩
  iapply (step_waitP I K c 2 1 (by decide) 21 (by decide) _ (dmaPay2 I c 1) rfl credit2) $$ [HO A3 B3]
  · isplitr; · iexact HR
    isplitl [HO]; · iexact HO
    isplitl [A3]; · iexact A3
    iexact B3
  iintro ⟨HO, Z3, P3⟩
  iapply (wpB_ret (F := F))
  iapply Hk
  isplitl [HO]; · iexact HO
  isplitl [Z1]; · iexact Z1
  isplitl [Y]; · iexact Y
  isplitl [Ho]; · iexact Ho
  isplitl [Z2]; · iexact Z2
  isplitl [P2]; · iexact P2
  isplitl [Z3]; · iexact Z3
  iexact P3

theorem part26 {Q : _ → sProp 𝕄} :
    iprop(recs I K ∗ OW (F := F) c 21 ∗ rW (F := F) c 0 2 ∗ rW (F := F) c 2 2 ∗ rW (F := F) c 0 3)
      ⊢ iprop(((OW (F := F) c 21 ∗ z (F := F) c 0 2 ∗ xo c (slot 2) (Xs I c) ∗ z (F := F) c 2 2 ∗ yo c (slot 2) (Ys I c) ∗ z (F := F) c 0 3 ∗ xo c (slot 3) (Xs I c)) -∗ Q ⟨⟩) -∗ wpB (F := F) c (onBufs (k0_part26 (F := F))) Q) := by
  rw [k0_part26_eq_skeleton]
  unfold onBufs k0_part26_skel
  simp only [semSignalWord, semWaitWord, Prog.lift, Prog.bind_op, Prog.bind_ret, Prog.pure_eq_ret, wp_deviceId]
  iintro ⟨#HR, HO, ⟨A0, B0⟩, ⟨A1, B1⟩, A2, B2⟩ Hk
  iapply (step_waitP I K c 0 2 (by decide) 21 (by decide) _ (dmaPay0 I c 2) rfl credit0) $$ [HO A0 B0]
  · isplitr; · iexact HR
    isplitl [HO]; · iexact HO
    isplitl [A0]; · iexact A0
    iexact B0
  iintro ⟨HO, Z0, P0⟩
  iapply (step_waitP I K c 2 2 (by decide) 21 (by decide) _ (dmaPay2 I c 2) rfl credit2) $$ [HO A1 B1]
  · isplitr; · iexact HR
    isplitl [HO]; · iexact HO
    isplitl [A1]; · iexact A1
    iexact B1
  iintro ⟨HO, Z1, P1⟩
  iapply (step_waitP I K c 0 3 (by decide) 21 (by decide) _ (dmaPay0 I c 3) rfl credit0) $$ [HO A2 B2]
  · isplitr; · iexact HR
    isplitl [HO]; · iexact HO
    isplitl [A2]; · iexact A2
    iexact B2
  iintro ⟨HO, Z2, P2⟩
  iapply (wpB_ret (F := F))
  iapply Hk
  isplitl [HO]; · iexact HO
  isplitl [Z0]; · iexact Z0
  isplitl [P0]; · iexact P0
  isplitl [Z1]; · iexact Z1
  isplitl [P1]; · iexact P1
  isplitl [Z2]; · iexact Z2
  iexact P2

theorem part27 {Q : _ → sProp 𝕄} :
    iprop(recs I K ∗ OW (F := F) c 21 ∗ rW (F := F) c 2 3 ∗ rW (F := F) c 0 4 ∗ rW (F := F) c 2 4 ∗ rW (F := F) c 0 5)
      ⊢ iprop(((OW (F := F) c 21 ∗ z (F := F) c 2 3 ∗ yo c (slot 3) (Ys I c) ∗ z (F := F) c 0 4 ∗ xo c (slot 4) (Xs I c) ∗ z (F := F) c 2 4 ∗ yo c (slot 4) (Ys I c) ∗ z (F := F) c 0 5 ∗ xo c (slot 5) (Xs I c)) -∗ Q ⟨⟩) -∗ wpB (F := F) c (onBufs (k0_part27 (F := F))) Q) := by
  rw [k0_part27_eq_skeleton]
  unfold onBufs k0_part27_skel
  simp only [semSignalWord, semWaitWord, Prog.lift, Prog.bind_op, Prog.bind_ret, Prog.pure_eq_ret, wp_deviceId]
  iintro ⟨#HR, HO, ⟨A0, B0⟩, ⟨A1, B1⟩, ⟨A2, B2⟩, A3, B3⟩ Hk
  iapply (step_waitP I K c 2 3 (by decide) 21 (by decide) _ (dmaPay2 I c 3) rfl credit2) $$ [HO A0 B0]
  · isplitr; · iexact HR
    isplitl [HO]; · iexact HO
    isplitl [A0]; · iexact A0
    iexact B0
  iintro ⟨HO, Z0, P0⟩
  iapply (step_waitP I K c 0 4 (by decide) 21 (by decide) _ (dmaPay0 I c 4) rfl credit0) $$ [HO A1 B1]
  · isplitr; · iexact HR
    isplitl [HO]; · iexact HO
    isplitl [A1]; · iexact A1
    iexact B1
  iintro ⟨HO, Z1, P1⟩
  iapply (step_waitP I K c 2 4 (by decide) 21 (by decide) _ (dmaPay2 I c 4) rfl credit2) $$ [HO A2 B2]
  · isplitr; · iexact HR
    isplitl [HO]; · iexact HO
    isplitl [A2]; · iexact A2
    iexact B2
  iintro ⟨HO, Z2, P2⟩
  iapply (step_waitP I K c 0 5 (by decide) 21 (by decide) _ (dmaPay0 I c 5) rfl credit0) $$ [HO A3 B3]
  · isplitr; · iexact HR
    isplitl [HO]; · iexact HO
    isplitl [A3]; · iexact A3
    iexact B3
  iintro ⟨HO, Z3, P3⟩
  iapply (wpB_ret (F := F))
  iapply Hk
  isplitl [HO]; · iexact HO
  isplitl [Z0]; · iexact Z0
  isplitl [P0]; · iexact P0
  isplitl [Z1]; · iexact Z1
  isplitl [P1]; · iexact P1
  isplitl [Z2]; · iexact Z2
  isplitl [P2]; · iexact P2
  isplitl [Z3]; · iexact Z3
  iexact P3

theorem part28 {Q : _ → sProp 𝕄} :
    iprop(recs I K ∗ OW (F := F) c 21 ∗ rW (F := F) c 2 5 ∗ rW (F := F) c 0 6 ∗ rW (F := F) c 2 6)
      ⊢ iprop(((OW (F := F) c 21 ∗ z (F := F) c 2 5 ∗ yo c (slot 5) (Ys I c) ∗ z (F := F) c 0 6 ∗ xo c (slot 6) (Xs I c) ∗ z (F := F) c 2 6 ∗ yo c (slot 6) (Ys I c)) -∗ Q ⟨⟩) -∗ wpB (F := F) c (onBufs (k0_part28 (F := F))) Q) := by
  rw [k0_part28_eq_skeleton]
  unfold onBufs k0_part28_skel
  simp only [semSignalWord, semWaitWord, Prog.lift, Prog.bind_op, Prog.bind_ret, Prog.pure_eq_ret, wp_deviceId]
  iintro ⟨#HR, HO, ⟨A0, B0⟩, ⟨A1, B1⟩, A2, B2⟩ Hk
  iapply (step_waitP I K c 2 5 (by decide) 21 (by decide) _ (dmaPay2 I c 5) rfl credit2) $$ [HO A0 B0]
  · isplitr; · iexact HR
    isplitl [HO]; · iexact HO
    isplitl [A0]; · iexact A0
    iexact B0
  iintro ⟨HO, Z0, P0⟩
  iapply (step_waitP I K c 0 6 (by decide) 21 (by decide) _ (dmaPay0 I c 6) rfl credit0) $$ [HO A1 B1]
  · isplitr; · iexact HR
    isplitl [HO]; · iexact HO
    isplitl [A1]; · iexact A1
    iexact B1
  iintro ⟨HO, Z1, P1⟩
  iapply (step_waitP I K c 2 6 (by decide) 21 (by decide) _ (dmaPay2 I c 6) rfl credit2) $$ [HO A2 B2]
  · isplitr; · iexact HR
    isplitl [HO]; · iexact HO
    isplitl [A2]; · iexact A2
    iexact B2
  iintro ⟨HO, Z2, P2⟩
  iapply (wpB_ret (F := F))
  iapply Hk
  isplitl [HO]; · iexact HO
  isplitl [Z0]; · iexact Z0
  isplitl [P0]; · iexact P0
  isplitl [Z1]; · iexact Z1
  isplitl [P1]; · iexact P1
  isplitl [Z2]; · iexact Z2
  iexact P2

theorem part29 {Q : _ → sProp 𝕄} :
    iprop(recs I K ∗ OW (F := F) c 21 ∗ rW (F := F) c 0 7 ∗ rW (F := F) c 2 7 ∗ eT (F := F) c 1)
      ⊢ iprop((∀ v v', (OW (F := F) c 22 ∗ z (F := F) c 0 7 ∗ xo c (slot 7) (Xs I c) ∗ z (F := F) c 2 7 ∗ yo c (slot 7) (Ys I c)) -∗ Q ⟨v, v'⟩) -∗ wpB (F := F) c (onBufs (k0_part29 (F := F)) c (pos c)) Q) := by
  rw [k0_part29_eq_skeleton]
  unfold onBufs k0_part29_skel
  simp only [semSignalWord, semWaitWord, Prog.lift, Prog.bind_op, Prog.bind_ret, Prog.pure_eq_ret, wp_deviceId]
  iintro ⟨#HR, HO, ⟨A1, B1⟩, ⟨A2, B2⟩, T⟩ Hk
  iapply (step_waitP I K c 0 7 (by decide) 21 (by decide) _ (dmaPay0 I c 7) rfl credit0) $$ [HO A1 B1]
  · isplitr; · iexact HR
    isplitl [HO]; · iexact HO
    isplitl [A1]; · iexact A1
    iexact B1
  iintro ⟨HO, Z1, P1⟩
  iapply (step_waitP I K c 2 7 (by decide) 21 (by decide) _ (dmaPay2 I c 7) rfl credit2) $$ [HO A2 B2]
  · isplitr; · iexact HR
    isplitl [HO]; · iexact HO
    isplitl [A2]; · iexact A2
    iexact B2
  iintro ⟨HO, Z2, P2⟩
  iapply (step_end I K c 1 (by decide) 21 rfl _ (dev22 c) _ rfl _ (by decide)) $$ [HO T]
  · isplitr; · iexact HR
    isplitl [HO]; · iexact HO
    iexact T
  iintro HO
  iapply (wpB_ret (F := F))
  iapply Hk
  isplitl [HO]; · iexact HO
  isplitl [Z1]; · iexact Z1
  isplitl [P1]; · iexact P1
  isplitl [Z2]; · iexact Z2
  iexact P2

theorem part30 {Q : _ → sProp 𝕄} (w w') :
    iprop(recs I K ∗ OW (F := F) c 22 ∗ eT (F := F) c 2 ∗ eT (F := F) c 3)
      ⊢ iprop((∀ v, (OW (F := F) c 24) -∗ Q ⟨v, 1#32⟩) -∗ wpB (F := F) c (onBufs (k0_part30 (F := F)) c (pos c) w w') Q) := by
  rw [k0_part30_eq_skeleton]
  unfold onBufs k0_part30_skel
  simp only [semSignalWord, semWaitWord, Prog.lift, Prog.bind_op, Prog.bind_ret, Prog.pure_eq_ret, wp_deviceId]
  iintro ⟨#HR, HO, T1, T2⟩ Hk
  iapply (step_end I K c 2 (by decide) 22 rfl _ (dev23 c) _ rfl _ (by decide)) $$ [HO T1]
  · isplitr; · iexact HR
    isplitl [HO]; · iexact HO
    iexact T1
  iintro HO
  iapply (step_end I K c 3 (by decide) 23 rfl _ (dev24 c) _ rfl _ (by decide)) $$ [HO T2]
  · isplitr; · iexact HR
    isplitl [HO]; · iexact HO
    iexact T2
  iintro HO
  iapply (wpB_ret (F := F))
  iapply Hk
  iexact HO

theorem part31 {Q : _ → sProp 𝕄} (w w') :
    iprop(recs I K ∗ OW (F := F) c 24 ∗ eT (F := F) c 4 ∗ eT (F := F) c 5 ∗ eT (F := F) c 6)
      ⊢ iprop((∀ v v', (OW (F := F) c 27) -∗ Q ⟨v, v'⟩) -∗ wpB (F := F) c (onBufs (k0_part31 (F := F)) c (pos c) w w') Q) := by
  rw [k0_part31_eq_skeleton]
  unfold onBufs k0_part31_skel
  simp only [semSignalWord, semWaitWord, Prog.lift, Prog.bind_op, Prog.bind_ret, Prog.pure_eq_ret, wp_deviceId]
  iintro ⟨#HR, HO, T1, T2, T3⟩ Hk
  iapply (step_end I K c 4 (by decide) 24 rfl _ (dev25 c) _ rfl _ (by decide)) $$ [HO T1]
  · isplitr; · iexact HR
    isplitl [HO]; · iexact HO
    iexact T1
  iintro HO
  iapply (step_end I K c 5 (by decide) 25 rfl _ (dev26 c) _ rfl _ (by decide)) $$ [HO T2]
  · isplitr; · iexact HR
    isplitl [HO]; · iexact HO
    iexact T2
  iintro HO
  iapply (step_end I K c 6 (by decide) 26 rfl _ (dev27 c) _ rfl _ (by decide)) $$ [HO T3]
  · isplitr; · iexact HR
    isplitl [HO]; · iexact HO
    iexact T3
  iintro HO
  iapply (wpB_ret (F := F))
  iapply Hk
  iexact HO

end

end Cert.KernelIdeal.Moe

end
-- ==== Proof.Body.lean ====
/-
The whole body of the kernel, from what a device holds at the start to what it holds at the end.
-/
module

public import proofs.«01_k».proof.Proof.Parts3

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem wpB_seq {α β : Type} {c : Dev nD} {p : Prog (TpuEff nD τ sig (Elt F) Λ₀ .tc) α} {k : α → Prog (TpuEff nD τ sig (Elt F) Λ₀ .tc) β} {Q : β → sProp 𝕄} :
    wpB (F := F) c p (fun a => wpB (F := F) c (k a) Q) ⊢ wpB (F := F) c (p >>= k) Q := Entails.of_eq (wp_bind ..).symm

/-- The eight slots make the whole buffer. -/
theorem join8 {A : Finset S8x2x48x512.Idx → sProp 𝕄} (hA : ∀ S T, Disjoint S T → A (S ∪ T) ⊣⊢ iprop(A S ∗ A T)) :
    iprop(A (slot 0) ∗ A (slot 1) ∗ A (slot 2) ∗ A (slot 3) ∗ A (slot 4) ∗ A (slot 5) ∗ A (slot 6) ∗ A (slot 7)) ⊢ A Finset.univ := by
  iintro ⟨H0, H1, H2, H3, H4, H5, H6, H7⟩
  iapply (split_chunks hA).2
  isplitl [H0]; · iexact H0
  isplitl [H1 H2]
  · iapply (split_13 hA).2; isplitl [H1]; · iexact H1
    iexact H2
  isplitl [H3 H4]
  · iapply (split_35 hA).2; isplitl [H3]; · iexact H3
    iexact H4
  iapply (split_58 hA).2; isplitl [H5]; · iexact H5
  isplitl [H6]; · iexact H6
  iexact H7

/-- The two receive buffers by what each barrier signal hands over. -/
theorem hand_over (c : Dev nD) (fr fq : Vec F S8x2x48x512 .bf16) :
    iprop(xi c Finset.univ fr ∗ yi c Finset.univ fq) ⊢ iprop(xi c (slot 0) fr ∗ yi c (slot 0) fq ∗ all7 (give (F := F) c)) := by
  iintro ⟨Hx, Hy⟩
  ihave ⟨X0, X13, X35, X58⟩ := (split_chunks (F := F) (A := fun S => xi c S fr) (xi_union (F := F) c fr)).1 $$ Hx
  ihave ⟨X1, X2⟩ := (split_13 (F := F) (A := fun S => xi c S fr) (xi_union (F := F) c fr)).1 $$ X13
  ihave ⟨X3, X4⟩ := (split_35 (F := F) (A := fun S => xi c S fr) (xi_union (F := F) c fr)).1 $$ X35
  ihave ⟨X5, X6, X7⟩ := (split_58 (F := F) (A := fun S => xi c S fr) (xi_union (F := F) c fr)).1 $$ X58
  ihave ⟨Y0, Y13, Y35, Y58⟩ := (split_chunks (F := F) (A := fun S => yi c S fq) (yi_union (F := F) c fq)).1 $$ Hy
  ihave ⟨Y1, Y2⟩ := (split_13 (F := F) (A := fun S => yi c S fq) (yi_union (F := F) c fq)).1 $$ Y13
  ihave ⟨Y3, Y4⟩ := (split_35 (F := F) (A := fun S => yi c S fq) (yi_union (F := F) c fq)).1 $$ Y35
  ihave ⟨Y5, Y6, Y7⟩ := (split_58 (F := F) (A := fun S => yi c S fq) (yi_union (F := F) c fq)).1 $$ Y58
  isplitl [X0]; · iexact X0
  isplitl [Y0]; · iexact Y0
  have one : ∀ o o' : Fin 8, o' = -o → iprop(xi c (slot o') fr ∗ yi c (slot o) fq) ⊢ give (F := F) c o := by
    rintro o _ rfl
    iintro ⟨H, H'⟩
    isplitl [H]
    · iexists fr; iexact H
    · iexists fq; iexact H'
  isplitl [X7 Y1]
  · iapply (one 1 7 (by decide)); isplitl [X7]; · iexact X7
    iexact Y1
  isplitl [X6 Y2]
  · iapply (one 2 6 (by decide)); isplitl [X6]; · iexact X6
    iexact Y2
  isplitl [X5 Y3]
  · iapply (one 3 5 (by decide)); isplitl [X5]; · iexact X5
    iexact Y3
  isplitl [X4 Y4]
  · iapply (one 4 4 (by decide)); isplitl [X4]; · iexact X4
    iexact Y4
  isplitl [X3 Y5]
  · iapply (one 5 3 (by decide)); isplitl [X3]; · iexact X3
    iexact Y5
  isplitl [X2 Y6]
  · iapply (one 6 2 (by decide)); isplitl [X2]; · iexact X2
    iexact Y6
  iapply (one 7 1 (by decide)); isplitl [X1]; · iexact X1
  iexact Y7

section
variable (I : Ins F) (K : Dev nD × Fin 34 → ℕ) (c : Dev nD)

/-- The four input blocks, staged. -/
abbrev ins : sProp 𝕄 := iprop(sx c (I.x c) ∗ sa c (I.a c) ∗ sw1 c (I.w1 c) ∗ sw2 c (I.w2 c))
/-- The four exchange buffers, at given contents. -/
abbrev scr (fx fr fy fq : Vec F S8x2x48x512 .bf16) : sProp 𝕄 := iprop(xo c Finset.univ fx ∗ xi c Finset.univ fr ∗ yo c Finset.univ fy ∗ yi c Finset.univ fq)
/-- A family at all eight offsets. -/
abbrev all8 (Φ : Fin 8 → sProp 𝕄) : sProp 𝕄 := iprop(Φ 0 ∗ all7 Φ)

/-- The rights a device starts with. -/
abbrev rights : sProp 𝕄 :=
  iprop(all7 (bT (F := F) c) ∗ all7 (eT (F := F) c) ∗ all7 (xT (F := F) c) ∗ all7 (yT (F := F) c)
    ∗ (cred (tallyAt (barC c) () 7) ∗ atPos ER (barC c) 0 ∅ 0) ∗ (cred (tallyAt (endC c) () 7) ∗ atPos ER (endC c) 0 ∅ 0)
    ∗ all7 (rW (F := F) c 1) ∗ all7 (rW (F := F) c 3) ∗ all7 (sP (F := F) c 0) ∗ all7 (sP (F := F) c 2)
    ∗ (sP (F := F) c 0 0 ∗ sP (F := F) c 1 0 ∗ sP (F := F) c 2 0 ∗ sP (F := F) c 3 0))
/-- Every semaphore of the device at rest. -/
abbrev rest : sProp 𝕄 :=
  iprop(semVal (barC c) 0 ∗ semVal (endC c) 0 ∗ all8 (z (F := F) c 0) ∗ all8 (z (F := F) c 1) ∗ all8 (z (F := F) c 2) ∗ all8 (z (F := F) c 3))

set_option maxHeartbeats 4000000 in
theorem body {Q : PUnit.{1} → sProp 𝕄} (g : Vec F S512x512 .f32) (fx fr fy fq : Vec F S8x2x48x512 .bf16) :
    iprop(recs I K ∗ OW (F := F) c 0 ∗ ins I c ∗ so c g ∗ scr c fx fr fy fq ∗ rights c)
      ⊢ iprop(((OW (F := F) c 28 ∗ ins I c ∗ so c (outAt I c) ∗ scr c (Xs I c) (Xr I c) (Ys I c) (Yr I c) ∗ rest c) -∗ Q ⟨⟩)
        -∗ wpB (F := F) c (onBufs (cc0__moe_body (F := F))) Q) := by
  rw [cc0__moe_body_eq_skeleton]
  unfold onBufs cc0__moe_body_skel
  iintro ⟨#HR, HO, ⟨ix, ia, i1, i2⟩, io, ⟨xs, xr, ys, yr⟩, ⟨B1, B2, B3, B4, B5, B6, B7⟩, ⟨E1, E2, E3, E4, E5, E6, E7⟩, ⟨⟨Xa1, Xb1⟩, ⟨Xa2, Xb2⟩, ⟨Xa3, Xb3⟩, ⟨Xa4, Xb4⟩, ⟨Xa5, Xb5⟩, ⟨Xa6, Xb6⟩, ⟨Xa7, Xb7⟩⟩, ⟨⟨Ya1, Yb1⟩, ⟨Ya2, Yb2⟩, ⟨Ya3, Yb3⟩, ⟨Ya4, Yb4⟩, ⟨Ya5, Yb5⟩, ⟨Ya6, Yb6⟩, ⟨Ya7, Yb7⟩⟩, ⟨bC, bP⟩, ⟨eC, eP⟩, ⟨⟨c11, p11⟩, ⟨c12, p12⟩, ⟨c13, p13⟩, ⟨c14, p14⟩, ⟨c15, p15⟩, ⟨c16, p16⟩, ⟨c17, p17⟩⟩, ⟨⟨c31, p31⟩, ⟨c32, p32⟩, ⟨c33, p33⟩, ⟨c34, p34⟩, ⟨c35, p35⟩, ⟨c36, p36⟩, ⟨c37, p37⟩⟩, ⟨q01, q02, q03, q04, q05, q06, q07⟩, ⟨q21, q22, q23, q24, q25, q26, q27⟩, o0, o1, o2, o3⟩ Hk
  ihave ⟨xr0, yr0, ⟨⟨gx1, gy1⟩, ⟨gx2, gy2⟩, ⟨gx3, gy3⟩, ⟨gx4, gy4⟩, ⟨gx5, gy5⟩, ⟨gx6, gy6⟩, ⟨gx7, gy7⟩⟩⟩ := (hand_over (F := F) c fr fq) $$ [xr yr]
  · isplitl [xr]; · iexact xr
    iexact yr
  ihave ⟨ys0, ys13, ys35, ys58⟩ := (split_chunks (F := F) (A := fun S => yo c S fy) (yo_union (F := F) c fy)).1 $$ ys
  iapply (wpB_seq (F := F))
  iapply (part1 I K c) $$ [HO B1 B2 gx1 gy1 gx2 gy2]
  · isplitr; · iexact HR
    isplitl [HO]; · iexact HO
    isplitl [B1]; · iexact B1
    isplitl [B2]; · iexact B2
    isplitl [gx1 gy1]
    · isplitl [gx1]; · iexact gx1
      iexact gy1
    isplitl [gx2]; · iexact gx2
    iexact gy2
  iintro %_ %_ %_ HO
  try dsimp only
  iapply (wpB_seq (F := F))
  iapply (part2 I K c _ _ _) $$ [HO B3 B4 gx3 gy3 gx4 gy4]
  · isplitr; · iexact HR
    isplitl [HO]; · iexact HO
    isplitl [B3]; · iexact B3
    isplitl [B4]; · iexact B4
    isplitl [gx3 gy3]
    · isplitl [gx3]; · iexact gx3
      iexact gy3
    isplitl [gx4]; · iexact gx4
    iexact gy4
  iintro %_ %_ %_ HO
  try dsimp only
  iapply (wpB_seq (F := F))
  iapply (part3 I K c _ _ _) $$ [HO B5 B6 B7 gx5 gy5 gx6 gy6 gx7 gy7 ia]
  · isplitr; · iexact HR
    isplitl [HO]; · iexact HO
    isplitl [B5 B6 B7]
    · isplitl [B5]; · iexact B5
      isplitl [B6]; · iexact B6
      iexact B7
    isplitl [gx5 gy5 gx6 gy6 gx7 gy7]
    · isplitl [gx5 gy5]
      · isplitl [gx5]; · iexact gx5
        iexact gy5
      isplitl [gx6 gy6]
      · isplitl [gx6]; · iexact gx6
        iexact gy6
      isplitl [gx7]; · iexact gx7
      iexact gy7
    iexact ia
  iintro ⟨HO, ia⟩
  try dsimp only
  iapply (wpB_seq (F := F))
  iapply (part4 I c fx) $$ [ix xs]
  · isplitl [ix]; · iexact ix
    iexact xs
  iintro ⟨ix, xs⟩
  try dsimp only
  iapply (wpB_seq (F := F))
  iapply (part5 I K c fx) $$ [HO xs bC bP Xa1 Xb1]
  · isplitr; · iexact HR
    isplitl [HO]; · iexact HO
    isplitl [xs]; · iexact xs
    isplitl [bC bP]
    · isplitl [bC]; · iexact bC
      iexact bP
    isplitl [Xa1]; · iexact Xa1
    iexact Xb1
  iintro %_ %_ %_ %_ %_ %_ ⟨HO, zb, ⟨xs0, xs2, xs35, xs58⟩, ⟨tx2, tx3, tx4, tx5, tx6, tx7⟩, ⟨ty1, ty2, ty3, ty4, ty5, ty6, ty7⟩, cx1⟩
  try dsimp only
  iapply (wpB_seq (F := F))
  iapply (part6 I K c _ _ _ _ _) $$ [HO xs2 tx2 Xa2 Xb2]
  · isplitr; · iexact HR
    isplitl [HO]; · iexact HO
    isplitl [xs2]; · iexact xs2
    isplitl [tx2]; · iexact tx2
    isplitl [Xa2]; · iexact Xa2
    iexact Xb2
  iintro %_ %_ ⟨HO, cx2⟩
  try dsimp only
  iapply (wpB_seq (F := F))
  iapply (part7 I K c) $$ [HO xs35 tx3 tx4 Xa3 Xb3 Xa4 Xb4]
  · isplitr; · iexact HR
    isplitl [HO]; · iexact HO
    isplitl [xs35]; · iexact xs35
    isplitl [tx3 tx4]
    · isplitl [tx3]; · iexact tx3
      iexact tx4
    isplitl [Xa3 Xb3]
    · isplitl [Xa3]; · iexact Xa3
      iexact Xb3
    isplitl [Xa4]; · iexact Xa4
    iexact Xb4
  iintro %_ %_ %_ %_ ⟨HO, cx3, cx4⟩
  try dsimp only
  ihave ⟨xs5, xs6, xs7⟩ := (split_58 (F := F) (A := fun S => xo c S (Xs I c)) (xo_union (F := F) c (Xs I c))).1 $$ xs58
  iapply (wpB_seq (F := F))
  iapply (part8 I K c _ _ _ _) $$ [HO xs5 tx5 Xa5 Xb5]
  · isplitr; · iexact HR
    isplitl [HO]; · iexact HO
    isplitl [xs5]; · iexact xs5
    isplitl [tx5]; · iexact tx5
    isplitl [Xa5]; · iexact Xa5
    iexact Xb5
  iintro %_ %_ ⟨HO, cx5⟩
  try dsimp only
  iapply (wpB_seq (F := F))
  iapply (part9 I K c) $$ [HO xs0 xs6 xs7 tx6 tx7 Xa6 Xb6 Xa7 Xb7]
  · isplitr; · iexact HR
    isplitl [HO]; · iexact HO
    isplitl [xs0]; · iexact xs0
    isplitl [xs6 xs7]
    · isplitl [xs6]; · iexact xs6
      iexact xs7
    isplitl [tx6 tx7]
    · isplitl [tx6]; · iexact tx6
      iexact tx7
    isplitl [Xa6 Xb6]
    · isplitl [Xa6]; · iexact Xa6
      iexact Xb6
    isplitl [Xa7]; · iexact Xa7
    iexact Xb7
  iintro %_ ⟨HO, xs0, cx6, cx7⟩
  try dsimp only
  iapply (wpB_seq (F := F))
  iapply (part10 I c fr fy) $$ [i1 i2 xr0 ys0]
  · isplitl [i1]; · iexact i1
    isplitl [i2]; · iexact i2
    isplitl [xr0]; · iexact xr0
    iexact ys0
  iintro ⟨i1, i2, xr0, ys0⟩
  try dsimp only
  iapply (wpB_seq (F := F))
  iapply (part11 I K c _ _ fq fy) $$ [HO ys0 yr0 c11 p11]
  · isplitr; · iexact HR
    isplitl [HO]; · iexact HO
    isplitl [ys0]; · iexact ys0
    isplitl [yr0]; · iexact yr0
    isplitl [c11]; · iexact c11
    iexact p11
  iintro ⟨HO, ys0, yr0, z11, xr1⟩
  try dsimp only
  iapply (wpB_seq (F := F))
  iapply (part12 I K c fy) $$ [HO c12 p12 xr1 i1 i2 ys13]
  · isplitr; · iexact HR
    isplitl [HO]; · iexact HO
    isplitl [c12 p12]
    · isplitl [c12]; · iexact c12
      iexact p12
    isplitl [xr1]; · iexact xr1
    isplitl [i1]; · iexact i1
    isplitl [i2]; · iexact i2
    iexact ys13
  iintro ⟨HO, z12, xr13, i1, i2, ys13⟩
  try dsimp only
  iapply (wpB_seq (F := F))
  iapply (part13 I K c fy) $$ [HO i2 ys13 ty1 Ya1 Yb1]
  · isplitr; · iexact HR
    isplitl [HO]; · iexact HO
    isplitl [i2]; · iexact i2
    isplitl [ys13]; · iexact ys13
    isplitl [ty1]; · iexact ty1
    isplitl [Ya1]; · iexact Ya1
    iexact Yb1
  iintro %_ %_ ⟨HO, i2, ys2, cy1⟩
  try dsimp only
  iapply (wpB_seq (F := F))
  iapply (part14 I K c _ _ _) $$ [HO ys2 ty2 Ya2 Yb2 c13 p13]
  · isplitr; · iexact HR
    isplitl [HO]; · iexact HO
    isplitl [ys2]; · iexact ys2
    isplitl [ty2]; · iexact ty2
    isplitl [Ya2 Yb2]
    · isplitl [Ya2]; · iexact Ya2
      iexact Yb2
    isplitl [c13]; · iexact c13
    iexact p13
  iintro %_ ⟨HO, cy2, z13, xr3⟩
  try dsimp only
  iapply (wpB_seq (F := F))
  iapply (part15 I K c _ fy) $$ [HO c14 p14 xr3 i1 i2 ys35]
  · isplitr; · iexact HR
    isplitl [HO]; · iexact HO
    isplitl [c14 p14]
    · isplitl [c14]; · iexact c14
      iexact p14
    isplitl [xr3]; · iexact xr3
    isplitl [i1]; · iexact i1
    isplitl [i2]; · iexact i2
    iexact ys35
  iintro ⟨HO, z14, xr35, i1, i2, ys35⟩
  try dsimp only
  iapply (wpB_seq (F := F))
  iapply (part16 I c fy) $$ [i1 i2 ys35]
  · isplitl [i1]; · iexact i1
    isplitl [i2]; · iexact i2
    iexact ys35
  iintro %_ ⟨i1, i2, ys35⟩
  try dsimp only
  iapply (wpB_seq (F := F))
  iapply (part17 I K c _) $$ [HO ys35 ty3 ty4 Ya3 Yb3 Ya4 Yb4]
  · isplitr; · iexact HR
    isplitl [HO]; · iexact HO
    isplitl [ys35]; · iexact ys35
    isplitl [ty3 ty4]
    · isplitl [ty3]; · iexact ty3
      iexact ty4
    isplitl [Ya3 Yb3]
    · isplitl [Ya3]; · iexact Ya3
      iexact Yb3
    isplitl [Ya4]; · iexact Ya4
    iexact Yb4
  iintro %_ ⟨HO, cy3, cy4⟩
  try dsimp only
  iapply (wpB_seq (F := F))
  iapply (part18 I K c _ _) $$ [HO c15 p15 c16 p16 c17 p17]
  · isplitr; · iexact HR
    isplitl [HO]; · iexact HO
    isplitl [c15 p15]
    · isplitl [c15]; · iexact c15
      iexact p15
    isplitl [c16 p16]
    · isplitl [c16]; · iexact c16
      iexact p16
    isplitl [c17]; · iexact c17
    iexact p17
  iintro ⟨HO, z15, z16, z17, xr58⟩
  try dsimp only
  iapply (wpB_seq (F := F))
  iapply (part19 I c fy) $$ [i1 i2 ys58]
  · isplitl [i1]; · iexact i1
    isplitl [i2]; · iexact i2
    iexact ys58
  iintro ⟨i1, i2, ys58⟩
  try dsimp only
  ihave ⟨ys5, ys6, ys7⟩ := (split_58 (F := F) (A := fun S => yo c S (Ys I c)) (yo_union (F := F) c (Ys I c))).1 $$ ys58
  iapply (wpB_seq (F := F))
  iapply (part20 I K c _) $$ [HO ys5 ty5 Ya5 Yb5]
  · isplitr; · iexact HR
    isplitl [HO]; · iexact HO
    isplitl [ys5]; · iexact ys5
    isplitl [ty5]; · iexact ty5
    isplitl [Ya5]; · iexact Ya5
    iexact Yb5
  iintro %_ %_ ⟨HO, cy5⟩
  try dsimp only
  iapply (wpB_seq (F := F))
  iapply (part21 I K c _) $$ [HO ys6 ty6 Ya6 Yb6]
  · isplitr; · iexact HR
    isplitl [HO]; · iexact HO
    isplitl [ys6]; · iexact ys6
    isplitl [ty6]; · iexact ty6
    isplitl [Ya6]; · iexact Ya6
    iexact Yb6
  iintro %_ ⟨HO, cy6⟩
  try dsimp only
  iapply (wpB_seq (F := F))
  iapply (part22 I K c _ _) $$ [HO ys7 ty7 Ya7 Yb7 yr0 c31 p31 c32 p32]
  · isplitr; · iexact HR
    isplitl [HO]; · iexact HO
    isplitl [ys7]; · iexact ys7
    isplitl [ty7]; · iexact ty7
    isplitl [Ya7 Yb7]
    · isplitl [Ya7]; · iexact Ya7
      iexact Yb7
    isplitl [yr0]; · iexact yr0
    isplitl [c31 p31]
    · isplitl [c31]; · iexact c31
      iexact p31
    isplitl [c32]; · iexact c32
    iexact p32
  iintro ⟨HO, cy7, yr0, z31, z32, yr13⟩
  try dsimp only
  iapply (wpB_seq (F := F))
  iapply (part23 I K c _ _) $$ [HO c33 p33 c34 p34]
  · isplitr; · iexact HR
    isplitl [HO]; · iexact HO
    isplitl [c33 p33]
    · isplitl [c33]; · iexact c33
      iexact p33
    isplitl [c34]; · iexact c34
    iexact p34
  iintro ⟨HO, z33, z34, yr35⟩
  try dsimp only
  iapply (wpB_seq (F := F))
  iapply (part24 I K c _ _ _) $$ [HO c35 p35 c36 p36]
  · isplitr; · iexact HR
    isplitl [HO]; · iexact HO
    isplitl [c35 p35]
    · isplitl [c35]; · iexact c35
      iexact p35
    isplitl [c36]; · iexact c36
    iexact p36
  iintro ⟨HO, z35, z36, yr5, yr6⟩
  try dsimp only
  iapply (wpB_seq (F := F))
  iapply (part25 I K c g) $$ [HO c37 p37 yr5 yr6 io cx1 q01 cy1 q21]
  · isplitr; · iexact HR
    isplitl [HO]; · iexact HO
    isplitl [c37 p37]
    · isplitl [c37]; · iexact c37
      iexact p37
    isplitl [yr5]; · iexact yr5
    isplitl [yr6]; · iexact yr6
    isplitl [io]; · iexact io
    isplitl [cx1 q01]
    · isplitl [cx1]; · iexact cx1
      iexact q01
    isplitl [cy1]; · iexact cy1
    iexact q21
  iintro ⟨HO, z37, yr58, io, z01, xs1, z21, ys1⟩
  try dsimp only
  iapply (wpB_seq (F := F))
  iapply (part26 I K c) $$ [HO cx2 q02 cy2 q22 cx3 q03]
  · isplitr; · iexact HR
    isplitl [HO]; · iexact HO
    isplitl [cx2 q02]
    · isplitl [cx2]; · iexact cx2
      iexact q02
    isplitl [cy2 q22]
    · isplitl [cy2]; · iexact cy2
      iexact q22
    isplitl [cx3]; · iexact cx3
    iexact q03
  iintro ⟨HO, z02, xs2, z22, ys2, z03, xs3⟩
  try dsimp only
  iapply (wpB_seq (F := F))
  iapply (part27 I K c) $$ [HO cy3 q23 cx4 q04 cy4 q24 cx5 q05]
  · isplitr; · iexact HR
    isplitl [HO]; · iexact HO
    isplitl [cy3 q23]
    · isplitl [cy3]; · iexact cy3
      iexact q23
    isplitl [cx4 q04]
    · isplitl [cx4]; · iexact cx4
      iexact q04
    isplitl [cy4 q24]
    · isplitl [cy4]; · iexact cy4
      iexact q24
    isplitl [cx5]; · iexact cx5
    iexact q05
  iintro ⟨HO, z23, ys3, z04, xs4, z24, ys4, z05, xs5⟩
  try dsimp only
  iapply (wpB_seq (F := F))
  iapply (part28 I K c) $$ [HO cy5 q25 cx6 q06 cy6 q26]
  · isplitr; · iexact HR
    isplitl [HO]; · iexact HO
    isplitl [cy5 q25]
    · isplitl [cy5]; · iexact cy5
      iexact q25
    isplitl [cx6 q06]
    · isplitl [cx6]; · iexact cx6
      iexact q06
    isplitl [cy6]; · iexact cy6
    iexact q26
  iintro ⟨HO, z25, ys5, z06, xs6, z26, ys6⟩
  try dsimp only
  iapply (wpB_seq (F := F))
  iapply (part29 I K c) $$ [HO cx7 q07 cy7 q27 E1]
  · isplitr; · iexact HR
    isplitl [HO]; · iexact HO
    isplitl [cx7 q07]
    · isplitl [cx7]; · iexact cx7
      iexact q07
    isplitl [cy7 q27]
    · isplitl [cy7]; · iexact cy7
      iexact q27
    iexact E1
  iintro %_ %_ ⟨HO, z07, xs7, z27, ys7⟩
  try dsimp only
  iapply (wpB_seq (F := F))
  iapply (part30 I K c _ _) $$ [HO E2 E3]
  · isplitr; · iexact HR
    isplitl [HO]; · iexact HO
    isplitl [E2]; · iexact E2
    iexact E3
  iintro %_ HO
  try dsimp only
  iapply (wpB_seq (F := F))
  iapply (part31 I K c _ _) $$ [HO E4 E5 E6]
  · isplitr; · iexact HR
    isplitl [HO]; · iexact HO
    isplitl [E4]; · iexact E4
    isplitl [E5]; · iexact E5
    iexact E6
  iintro %_ %_ HO
  try dsimp only
  simp only [semSignalWord, semWaitWord, Prog.lift, Prog.bind_op, Prog.bind_ret, Prog.pure_eq_ret]
  iapply (step_end I K c 7 (by decide) 27 rfl _ (dev28 c) _ rfl _ (by decide)) $$ [HO E7]
  · isplitr; · iexact HR
    isplitl [HO]; · iexact HO
    iexact E7
  iintro HO
  iapply (step_endWait I K c _ rfl _ (by decide)) $$ [HO eC eP]
  · isplitr; · iexact HR
    isplitl [HO]; · iexact HO
    isplitl [eC]; · iexact eC
    iexact eP
  iintro ⟨HO, ze⟩
  imod (close_own I K c 0) $$ [o0] with z00
  · isplitr; · iexact HR
    iexact o0
  imod (close_own I K c 1) $$ [o1] with z10
  · isplitr; · iexact HR
    iexact o1
  imod (close_own I K c 2) $$ [o2] with z20
  · isplitr; · iexact HR
    iexact o2
  imod (close_own I K c 3) $$ [o3] with z30
  · isplitr; · iexact HR
    iexact o3
  ihave xs := (join8 (F := F) (A := fun S => xo c S (Xs I c)) (xo_union (F := F) c (Xs I c))) $$ [xs0 xs1 xs2 xs3 xs4 xs5 xs6 xs7]
  · isplitl [xs0]; · iexact xs0
    isplitl [xs1]; · iexact xs1
    isplitl [xs2]; · iexact xs2
    isplitl [xs3]; · iexact xs3
    isplitl [xs4]; · iexact xs4
    isplitl [xs5]; · iexact xs5
    isplitl [xs6]; · iexact xs6
    iexact xs7
  ihave ys := (join8 (F := F) (A := fun S => yo c S (Ys I c)) (yo_union (F := F) c (Ys I c))) $$ [ys0 ys1 ys2 ys3 ys4 ys5 ys6 ys7]
  · isplitl [ys0]; · iexact ys0
    isplitl [ys1]; · iexact ys1
    isplitl [ys2]; · iexact ys2
    isplitl [ys3]; · iexact ys3
    isplitl [ys4]; · iexact ys4
    isplitl [ys5]; · iexact ys5
    isplitl [ys6]; · iexact ys6
    iexact ys7
  ihave xr := (split_chunks (F := F) (A := fun S => xi c S (Xr I c)) (xi_union (F := F) c (Xr I c))).2 $$ [xr0 xr13 xr35 xr58]
  · isplitl [xr0]; · iexact xr0
    isplitl [xr13]; · iexact xr13
    isplitl [xr35]; · iexact xr35
    iexact xr58
  ihave yr := (split_chunks (F := F) (A := fun S => yi c S (Yr I c)) (yi_union (F := F) c (Yr I c))).2 $$ [yr0 yr13 yr35 yr58]
  · isplitl [yr0]; · iexact yr0
    isplitl [yr13]; · iexact yr13
    isplitl [yr35]; · iexact yr35
    iexact yr58
  iapply (wpB_ret (F := F))
  iapply Hk
  isplitl [HO]; · iexact HO
  isplitl [ix ia i1 i2]
  · isplitl [ix]; · iexact ix
    isplitl [ia]; · iexact ia
    isplitl [i1]; · iexact i1
    iexact i2
  isplitl [io]; · iexact io
  isplitl [xs xr ys yr]
  · isplitl [xs]; · iexact xs
    isplitl [xr]; · iexact xr
    isplitl [ys]; · iexact ys
    iexact yr
  isplitl [zb]; · iexact zb
  isplitl [ze]; · iexact ze
  isplitl [z00 z01 z02 z03 z04 z05 z06 z07]
  · isplitl [z00]; · iexact z00
    isplitl [z01]; · iexact z01
    isplitl [z02]; · iexact z02
    isplitl [z03]; · iexact z03
    isplitl [z04]; · iexact z04
    isplitl [z05]; · iexact z05
    isplitl [z06]; · iexact z06
    iexact z07
  isplitl [z10 z11 z12 z13 z14 z15 z16 z17]
  · isplitl [z10]; · iexact z10
    isplitl [z11]; · iexact z11
    isplitl [z12]; · iexact z12
    isplitl [z13]; · iexact z13
    isplitl [z14]; · iexact z14
    isplitl [z15]; · iexact z15
    isplitl [z16]; · iexact z16
    iexact z17
  isplitl [z20 z21 z22 z23 z24 z25 z26 z27]
  · isplitl [z20]; · iexact z20
    isplitl [z21]; · iexact z21
    isplitl [z22]; · iexact z22
    isplitl [z23]; · iexact z23
    isplitl [z24]; · iexact z24
    isplitl [z25]; · iexact z25
    isplitl [z26]; · iexact z26
    iexact z27
  isplitl [z30]; · iexact z30
  isplitl [z31]; · iexact z31
  isplitl [z32]; · iexact z32
  isplitl [z33]; · iexact z33
  isplitl [z34]; · iexact z34
  isplitl [z35]; · iexact z35
  isplitl [z36]; · iexact z36
  iexact z37

end

end Cert.KernelIdeal.Moe

end
-- ==== Proof.Fund.lean ====
/-
How the protocol's bookkeeping is funded at launch: every device's cells, the rights to pay, the credits to collect.
-/
module

public import proofs.«01_k».proof.Proof.Body

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 2000

/-! ## Families over a device's cells -/

theorem all8_univ (Φ : Fin 8 → sProp 𝕄) : bigSep Finset.univ Φ = all8 Φ :=
  bigSep_univ_eq_bigSepL [0, 1, 2, 3, 4, 5, 6, 7] (by decide) (by decide) Φ
theorem all7_univ (Φ : Fin 8 → sProp 𝕄) : (bigSep Finset.univ fun i : Fin 7 => Φ i.succ) = all7 Φ :=
  bigSep_univ_eq_bigSepL [0, 1, 2, 3, 4, 5, 6] (by decide) (by decide) fun i : Fin 7 => Φ i.succ
theorem univ_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_ins (by simp), bigSep_map]; rfl

/-- A position in a device's list of DMA semaphores: the family and the offset. -/
def dmaAt : Fin 4 × Fin 8 ≃ Fin 32 := finProdFinEquiv
theorem dmaAt_eq : ∀ (j : Fin 4) (o : Fin 8), (dmaAt (j, o)).succ.succ = dK j o := by decide +kernel

/-- A family over a device's cells: the two barriers, then the four DMA families. -/
theorem by_cell (Φ : Fin 34 → sProp 𝕄) :
    bigSep Finset.univ Φ = iprop(Φ 0 ∗ Φ 1 ∗ all8 (fun o => Φ (dK 0 o)) ∗ all8 (fun o => Φ (dK 1 o)) ∗ all8 (fun o => Φ (dK 2 o)) ∗ all8 (fun o => Φ (dK 3 o))) := by
  rw [univ_succ, univ_succ, bigSep_univ_equiv dmaAt, bigSep_univ_prod]
  rw [show (fun j : Fin 4 => bigSep Finset.univ fun o : Fin 8 => Φ (dmaAt (j, o)).succ.succ) = fun j => all8 fun o => Φ (dK j o) from
    funext fun j => by rw [all8_univ]; simp only [all8, all7, dmaAt_eq]]
  rw [bigSep_univ_eq_bigSepL [0, 1, 2, 3] (by decide) (by decide)]
  rfl

/-! ## The cells and the rights to pay -/

theorem kC_inj : Function.Injective (kC : Dev nD × Fin 34 → GSem nD τ sig) := by
  rintro ⟨c, k⟩ ⟨c', k'⟩ h
  have h1 : c = c' := congrArg (fun g : GSem nD τ sig => g.1.1) h
  subst h1
  have h2 : csem k = csem k' := congrArg Prod.snd h
  rw [csem_inj h2]
def allCells : Finset (GSem nD τ sig) := Finset.univ.map ⟨kC, kC_inj⟩

/-- Whom a right pays: kind 0 the barrier and 1 the closing barrier of the device `o` on, 2 a departure of rows, 3 the
    arrival of those rows, 4 a departure of results, 5 the arrival of those results. -/
def payTo : Fin 6 → Fin 8 → (Dev nD ≃ Dev nD)
  | 0, o => turn o | 1, o => turn o | 2, _ => Equiv.refl _ | 3, o => turn o | 4, _ => Equiv.refl _ | 5, o => (turn o).symm
def paySem : Fin 6 → Fin 8 → SemLoc sig
  | 0, _ => .reg barS | 1, _ => .reg endS | 2, o => .dma (dS 0 o) | 3, o => .dma (dS 1 o) | 4, o => .dma (dS 2 o) | 5, o => .dma (dS 3 o)
def payDuty : Fin 6 → Fin 8 → Fin 8
  | 0, o => o | 1, o => o | _, _ => 0

/-- A right as its owner names it. -/
abbrev tokOf (x : Dev nD × (Fin 6 × Fin 7)) : GSem nD τ sig × ℕ × Fin 8 :=
  ((((payTo x.2.1 x.2.2.succ x.1 : Dev nD) : Thread nD τ), paySem x.2.1 x.2.2.succ), 0, payDuty x.2.1 x.2.2.succ)
theorem tok_kind : ∀ s s' : Fin 6 × Fin 7, paySem s.1 s.2.succ = paySem s'.1 s'.2.succ → payDuty s.1 s.2.succ = payDuty s'.1 s'.2.succ → s = s' := by
  decide +kernel
theorem tokOf_inj : Function.Injective tokOf := by
  rintro ⟨c, s⟩ ⟨c', s'⟩ h
  have h1 : s = s' := tok_kind s s' (congrArg (fun x : GSem nD τ sig × ℕ × Fin 8 => x.1.2) h) (congrArg (fun x : GSem nD τ sig × ℕ × Fin 8 => x.2.2) h)
  subst h1
  have h2 : payTo s.1 s.2.succ c = payTo s.1 s.2.succ c' := congrArg (fun x : GSem nD τ sig × ℕ × Fin 8 => x.1.1.1) h
  rw [(payTo s.1 s.2.succ).injective h2]
def allToks : Finset (GSem nD τ sig × ℕ × Fin 8) := Finset.univ.map ⟨tokOf, tokOf_inj⟩

def u₀ : UU := (initOf (Pipeline.cells cfgs cellOf_inj) (Pipeline.launchToks cfgs cellOf_inj), initOf allCells allToks)

/-- The rights device `c` pays with. -/
def pays (c : Dev nD) : sProp 𝕄 := bigSep Finset.univ fun s : Fin 6 × Fin 7 =>
  dutyTok ER (tokOf (c, s)).1 (tokOf (c, s)).2.1 (tokOf (c, s)).2.2

/-- They are those the body spends. -/
theorem pays_eq (c : Dev nD) : (pays c : sProp 𝕄)
    = iprop(all7 (bT c) ∗ all7 (eT c) ∗ all7 (fun o => dutyTok ER (dC 0 o c) 0 0) ∗ all7 (fun o => dutyTok ER (dC 1 o (up o c)) 0 0)
      ∗ all7 (fun o => dutyTok ER (dC 2 o c) 0 0) ∗ all7 (fun o => dutyTok ER (dC 3 o (dn o c)) 0 0)) := by
  unfold pays
  rw [bigSep_univ_prod, bigSep_univ_eq_bigSepL [0, 1, 2, 3, 4, 5] (by decide) (by decide)]
  simp only [← all7_univ]
  rfl

section
variable (I : Ins F)

/-- What the launch deals device `c`. -/
def G (c : Dev nD) : sProp 𝕄 :=
  iprop((bigSep Finset.univ fun k : Fin 34 => roundState ER (Rd I) (kC (c, k)) 0)
    ∗ (bigSep Finset.univ fun k : Fin 34 => iprop(atPos ER (kC (c, k)) 0 ∅ 0 ∗ reached ER (kC (c, k)) 0)) ∗ pays c)

/-- The records every device reads, but for the levels. -/
def recs₀ (K : Dev nD × Fin 34 → ℕ) : sProp 𝕄 :=
  iprop((bigSep Finset.univ fun ck : Dev nD × Fin 34 => cellInv ER (Rd I) (K ck) (kC ck))
    ∗ (bigSep Finset.univ fun ck : Dev nD × Fin 34 => reached ER (kC ck) 0))
instance recs₀_persistent (K : Dev nD × Fin 34 → ℕ) : BI.Persistent (recs₀ I K) := by unfold recs₀; infer_instance

/-- What stays with device `c` alone. -/
def own (c : Dev nD) : sProp 𝕄 := iprop((bigSep Finset.univ fun k : Fin 34 => atPos ER (kC (c, k)) 0 ∅ 0) ∗ pays c)

/-- What the start makes of it. -/
def G' (c : Dev nD) : sProp 𝕄 := iprop(∃ K, recs₀ I K ∗ own c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Fin 34 => Φ (kC (c, k)) := by
    unfold allCells; rw [bigSep_map, bigSep_univ_prod]; rfl
  have hT : bigSep allToks (fun x => (dutyTok ER x.1 x.2.1 x.2.2 : sProp 𝕄)) = bigSep Finset.univ fun c : Dev nD => pays c := by
    unfold allToks; rw [bigSep_map, bigSep_univ_prod]; rfl
  iintro HX
  imod (Rounds.fund ER (Rd I) allCells allToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the closing barrier and the DMA families. -/
abbrev osem (k : Fin 33) : SemLoc sig := csem k.succ

theorem unscoped_eq (c : Dev nD) : (unscopedSems0 c : sProp 𝕄) = semVal (barC c) 0 := by
  unfold unscopedSems0; rw [bigSep_eq_bigSepL_of_eq [SemLoc.reg barS] (by decide +kernel) (by decide)]; rfl

/-- Every exchange semaphore of device `c`. -/
theorem sems_eq (c : Dev nD) :
    (iprop(unscopedSems0 c ∗ Pipeline.ownSems0 (Ix := Unit) (Name := ℕ) (U := UU) (Lvl := ℕ) (Val := Elt F) (τ := τ) osem c) : sProp 𝕄)
      = bigSep Finset.univ fun k : Fin 34 => semVal (kC (c, k)) 0 := by
  rw [univ_succ, unscoped_eq]; rfl

theorem alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : Fin 34 => iprop(∃ κ : ℕ, cellInv ER (Rd I) κ (kC (c, k))))
          ∗ (bigSep Finset.univ fun k : Fin 34 => iprop(atPos ER (kC (c, k)) 0 ∅ 0 ∗ reached ER (kC (c, k)) 0)) ∗ pays c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Fin 34 => semVal (kC (c, k)) 0) ∗ bigSep Finset.univ fun k : Fin 34 => roundState ER (Rd I) (kC (c, k)) 0)
      ⊢ (|={Set.univ}=> bigSep Finset.univ fun k : Fin 34 => iprop(∃ κ : ℕ, cellInv ER (Rd I) κ (kC (c, k))) : sProp 𝕄) from by
        rw [← bigSep_sep']
        exact (bigSep_mono fun k _ => (Rounds.body_intro ER (Rd I) (kC (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_recs {R : sProp 𝕄} [BI.Persistent R] {J : Type} [DecidableEq J] {S : Finset J} {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out :
    (bigSep Finset.univ fun c : Dev nD => iprop((bigSep Finset.univ fun k : Fin 34 => iprop(∃ κ : ℕ, cellInv ER (Rd I) κ (kC (c, k))))
          ∗ (bigSep Finset.univ fun k : Fin 34 => iprop(atPos ER (kC (c, k)) 0 ∅ 0 ∗ reached ER (kC (c, k)) 0)) ∗ pays c) : sProp 𝕄)
      ⊢ bigSep Finset.univ (G' I) := by
  rw [bigSep_sep', bigSep_sep', ← bigSep_univ_prod (fun ck : Dev nD × Fin 34 => iprop(∃ κ : ℕ, cellInv ER (Rd I) κ (kC ck))),
    bigSep_congr (s := Finset.univ) (fun (c : Dev nD) _ => bigSep_sep' Finset.univ (fun k : Fin 34 => (atPos ER (kC (c, k)) 0 ∅ 0 : sProp 𝕄)) (fun k => reached ER (kC (c, k)) 0)),
    bigSep_sep', ← bigSep_univ_prod (fun ck : Dev nD × Fin 34 => (reached ER (kC ck) 0 : sProp 𝕄))]
  iintro ⟨HI, ⟨Hat, #HR⟩, Htok⟩
  ihave HK := (BI.bigSep_exists_pi Finset.univ (fun (ck : Dev nD × Fin 34) (κ : ℕ) => (cellInv ER (Rd I) κ (kC ck) : sProp 𝕄))) $$ HI
  icases HK with ⟨%K, #HI⟩
  iapply (with_recs (R := recs₀ I K) (Φ := own) fun c _ => show iprop(recs₀ I K ∗ own c) ⊢ G' I c from by
    unfold G'; iintro H; iexists K; iexact H)
  isplitr
  · unfold recs₀; isplitl; · iexact HI
    iexact HR
  · iapply (Entails.of_eq (bigSep_sep' Finset.univ (fun c : Dev nD => bigSep Finset.univ fun k : Fin 34 => (atPos ER (kC (c, k)) 0 ∅ 0 : sProp 𝕄)) pays).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => alloc I c).trans (bigSep_fupd _ _)).trans (BI.fupd_mono (share_out I))

end

/-! ## The credit each cell starts with -/

/-- One payment into a semaphore: a unit, or a slot's credit. -/
def unitOf : SemLoc sig → ℕ
  | .reg _ => 1
  | .dma _ => N
/-- How many payments a cell is owed. -/
def owedTo (k : Fin 34) : ℕ := if k.val < 2 then 7 else if k.val < 10 then 0 else if k.val = 10 then 0 else if k.val < 18 then 1 else if k.val < 27 then 0 else 1

theorem dues_unit (c : Dev nD) : ∀ x ∈ dues c, x.2 = unitOf x.1.2 := by
  unfold dues; simp only [List.forall_mem_append, List.forall_mem_map]
  exact ⟨⟨⟨fun _ _ => rfl, fun _ _ => rfl⟩, fun _ _ => rfl⟩, fun _ _ => rfl⟩

theorem sum_ite_unit (l : List (GSem nD τ sig × ℕ)) (g : GSem nD τ sig) (h : ∀ x ∈ l, x.2 = unitOf x.1.2) :
    (l.map fun x => if x.1 = g then x.2 else 0).sum = unitOf g.2 * (l.map Prod.fst).count g := by
  induction l with
  | nil => rfl
  | cons x l ih =>
    rw [List.map_cons, List.sum_cons, ih fun y hy => h y (List.mem_cons_of_mem _ hy), List.map_cons, List.count_cons, Nat.mul_add, Nat.add_comm]
    congr 1
    by_cases hx : x.1 = g
    · rw [if_pos hx, if_pos (beq_iff_eq.mpr hx), h x List.mem_cons_self, hx, Nat.mul_one]
    · rw [if_neg hx, if_neg (fun h' => hx (beq_iff_eq.mp h')), Nat.mul_zero]

theorem count_dues : ∀ (c : Dev nD) (k : Fin 34), ∑ d : Dev nD, ((dues d).map Prod.fst).count (kC (c, k)) = owedTo k := by decide +kernel

theorem credit_eq (c : Dev nD) (k : Fin 34) :
    tallyOn (kC (c, k)) (launchCredit (Pipeline.owing fun d => due d 0) 0 (kC (c, k)))
      = (tallyAt (kC (c, k)) () (unitOf (csem k) * owedTo k) : CellTallies nD τ sig Unit) := by
  unfold tallyAt; refine congrArg _ (Finsupp.ext fun u => ?_); cases u
  rw [Pipeline.launchCredit_owing, Finsupp.single_eq_same, ← count_dues c k, Finset.mul_sum]
  refine Finset.sum_congr rfl fun d _ => ?_
  show tally (dues d) (kC (c, k)) () = _
  rw [tally_apply, sum_ite_unit _ _ (dues_unit d)]

theorem creds (c : Dev nD) :
    (Pipeline.launchCred (fun d => due d 0) c : sProp 𝕄) ⊢ bigSep Finset.univ fun k : Fin 34 => cred (tallyAt (kC (c, k)) () (unitOf (csem k) * owedTo k)) := by
  unfold Pipeline.launchCred
  refine (bigSep_subset (t := Finset.univ.map ⟨csem, csem_inj⟩) (Finset.subset_univ _)).trans ?_
  rw [bigSep_map]
  exact bigSep_mono fun k _ => Entails.of_eq (congrArg cred (credit_eq c k))

theorem cred_dma (c : Dev nD) (j : Fin 4) (o : Fin 8) (h : owedTo (dK j o) = 1) :
    cred (tallyAt (kC (c, dK j o)) () (unitOf (csem (dK j o)) * owedTo (dK j o))) = (cr c j o : sProp 𝕄) := by
  rw [h, Nat.mul_one, kC_dma, csem_dma]; rfl

/-! ## Everything the body starts with -/

theorem all7_sep (Φ Ψ : Fin 8 → sProp 𝕄) : iprop(all7 Φ ∗ all7 Ψ) ⊢ all7 fun o => iprop(Φ o ∗ Ψ o) := by
  rw [← all7_univ Φ, ← all7_univ Ψ, ← all7_univ fun o => iprop(Φ o ∗ Ψ o)]
  exact Entails.of_eq (bigSep_sep' _ _ _).symm

theorem rights_intro (c : Dev nD) : iprop(own c ∗ Pipeline.launchCred (fun d => due d 0) c) ⊢ (rights c : sProp 𝕄) := by
  unfold own
  rw [pays_eq, by_cell]
  simp only [kC_dma]
  iintro ⟨⟨⟨HP0, HP1, ⟨Ha0, Ha⟩, ⟨Hb0, Hb⟩, ⟨Hc0, Hc⟩, ⟨Hd0, Hd⟩⟩, HB, HE, HX0, HX1, HY0, HY1⟩, HC⟩
  ihave HC' := ((creds (F := F) c).trans (Entails.of_eq (by_cell _))) $$ HC
  icases HC' with ⟨HC0, HC1, -, ⟨-, Hx⟩, -, ⟨-, Hy⟩⟩
  isplitl [HB]; · iexact HB
  isplitl [HE]; · iexact HE
  isplitl [HX0 HX1]
  · iapply (all7_sep (fun o => dutyTok ER (dC 0 o c) 0 0) (fun o => dutyTok ER (dC 1 o (up o c)) 0 0)); isplitl [HX0]; · iexact HX0
    iexact HX1
  isplitl [HY0 HY1]
  · iapply (all7_sep (fun o => dutyTok ER (dC 2 o c) 0 0) (fun o => dutyTok ER (dC 3 o (dn o c)) 0 0)); isplitl [HY0]; · iexact HY0
    iexact HY1
  isplitl [HC0 HP0]
  · isplitl [HC0]; · iexact HC0
    iexact HP0
  isplitl [HC1 HP1]
  · isplitl [HC1]; · iexact HC1
    iexact HP1
  isplitl [Hx Hb]
  · iapply (all7_sep (cr c 1) (sP c 1)); isplitl [Hx]
    · iapply (Entails.of_eq (show all7 (fun o => cred (tallyAt (kC (c, dK 1 o)) () (unitOf (csem (dK 1 o)) * owedTo (dK 1 o)))) = (all7 (cr c 1) : sProp 𝕄) from by
        simp only [all7, cred_dma (F := F) c 1 1 rfl, cred_dma (F := F) c 1 2 rfl, cred_dma (F := F) c 1 3 rfl, cred_dma (F := F) c 1 4 rfl,
          cred_dma (F := F) c 1 5 rfl, cred_dma (F := F) c 1 6 rfl, cred_dma (F := F) c 1 7 rfl]))
      iexact Hx
    · iexact Hb
  isplitl [Hy Hd]
  · iapply (all7_sep (cr c 3) (sP c 3)); isplitl [Hy]
    · iapply (Entails.of_eq (show all7 (fun o => cred (tallyAt (kC (c, dK 3 o)) () (unitOf (csem (dK 3 o)) * owedTo (dK 3 o)))) = (all7 (cr c 3) : sProp 𝕄) from by
        simp only [all7, cred_dma (F := F) c 3 1 rfl, cred_dma (F := F) c 3 2 rfl, cred_dma (F := F) c 3 3 rfl, cred_dma (F := F) c 3 4 rfl,
          cred_dma (F := F) c 3 5 rfl, cred_dma (F := F) c 3 6 rfl, cred_dma (F := F) c 3 7 rfl]))
      iexact Hy
    · iexact Hd
  isplitl [Ha]; · iexact Ha
  isplitl [Hc]; · iexact Hc
  isplitl [Ha0]; · iexact Ha0
  isplitl [Hb0]; · iexact Hb0
  isplitl [Hc0]; · iexact Hc0
  iexact Hd0

/-- What the body ends with: every exchange semaphore at rest. -/
theorem rest_elim (c : Dev nD) :
    (rest c : sProp 𝕄) ⊢ iprop(unscopedSems0 c ∗ Pipeline.ownSems0 (Ix := Unit) (Name := ℕ) (U := UU) (Lvl := ℕ) (Val := Elt F) (τ := τ) osem c) := by
  rw [sems_eq, by_cell]; simp only [kC_dma]; exact .rfl

end Cert.KernelIdeal.Moe

end
-- ==== Proof.Run.lean ====
/-
The run of the whole mesh: what the launch hands each device, the body's obligation, and what memory holds at the end.
-/
module

public import proofs.«01_k».proof.Proof.Fund
public import Idealize.ShloMosaic.Lib.Pipeline.CollectiveSegs

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument blocks the devices hold. -/
def Im : Ins F where
  x c := m ((c : Thread nD τ).loc main_arg0)
  a c := m ((c : Thread nD τ).loc main_arg1)
  w1 c := m ((c : Thread nD τ).loc main_arg2)
  w2 c := m ((c : Thread nD τ).loc main_arg3)

/-! ## The windows are the whole arrays -/

theorem read_win0 (f : main_arg0.ty.Contents (Elt F)) : (win0_0.blk t0_0).view.read (Elt F) f = f :=
  Memref.read_access_unit_zero (Elt F) main_arg0 (funext fun a => by fin_cases a <;> decide) (fun a => by fin_cases a <;> decide) f
theorem read_win1 (f : main_arg1.ty.Contents (Elt F)) : (win0_1.blk t0_0).view.read (Elt F) f = f :=
  Memref.read_access_unit_zero (Elt F) main_arg1 (funext fun a => by fin_cases a <;> decide) (fun a => by fin_cases a <;> decide) f
theorem read_win2 (f : main_arg2.ty.Contents (Elt F)) : (win0_2.blk t0_0).view.read (Elt F) f = f :=
  Memref.read_access_unit_zero (Elt F) main_arg2 (funext fun a => by fin_cases a <;> decide) (fun a => by fin_cases a <;> decide) f
theorem read_win3 (f : main_arg3.ty.Contents (Elt F)) : (win0_3.blk t0_0).view.read (Elt F) f = f :=
  Memref.read_access_unit_zero (Elt F) main_arg3 (funext fun a => by fin_cases a <;> decide) (fun a => by fin_cases a <;> decide) f
theorem read_win4 (f : main_v1.ty.Contents (Elt F)) : (win0_4.blk t0_0).view.read (Elt F) f = f :=
  Memref.read_access_unit_zero (Elt F) main_v1 (funext fun a => by fin_cases a <;> decide) (fun a => by fin_cases a <;> decide) f

theorem fetch_in (w : Fin cfg0.W) (h : w.val < 4) : (cfg0.win w).fetch t0_0 = true := by
  fin_cases w <;> first | rfl | exact absurd h (by decide)

/-! ## The data of the launch -/

/-- What a device holds before the body but for its buffers. -/
def start (c : Dev nD) : sProp 𝕄 := iprop((∃ K, recs (Im m) K) ∗ rights c)
def Φ₀ (c : Dev nD) : sProp 𝕄 := iprop(start m c ∗ ∃ fx fr fy fq, scr c fx fr fy fq)
def Φ₁ (c : Dev nD) : sProp 𝕄 := iprop(scr c (Xs (Im m) c) (Xr (Im m) c) (Ys (Im m) c) (Yr (Im m) c) ∗ rest c)

def dats (_ : Fin 1) (c : Dev nD) : Dat τ (Elt F) Unit ℕ UU ℕ cfg0 c where
  A w := m ((cfg0.win w).arr.view.loc (c : Thread nD τ))
  after w _ := match w with
    | ⟨0, _⟩ => (Im m).x c
    | ⟨1, _⟩ => (Im m).a c
    | ⟨2, _⟩ => (Im m).w1 c
    | ⟨3, _⟩ => (Im m).w2 c
    | ⟨4, _⟩ => outAt (Im m) c
  Φ t := match t with
    | ⟨0, _⟩ => Φ₀ m c
    | ⟨_ + 1, _⟩ => Φ₁ m c
  q _ := fullShare
  owed t := match t with
    | ⟨0, _⟩ => due c 0
    | ⟨_ + 1, _⟩ => 0

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

/-- A staging buffer at contents `X`, as the pipeline holds it. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_intro (c : Dev nD) (b : Ref sig .tc) (X : b.ty.Contents (Elt F)) :
    (((c : Thread nD τ).loc b) ↦{fullShare} X : sProp 𝕄) ⊢ stg c b X := by
  iintro H; iexists X; isplitr; · (ipureintro; rfl)
  iexact H
theorem stg_elim (c : Dev nD) (b : Ref sig .tc) (X : b.ty.Contents (Elt F)) :
    stg c b X ⊢ (((c : Thread nD τ).loc b) ↦{fullShare} X : sProp 𝕄) := by
  iintro ⟨%f, %h, H⟩; subst h; iexact H

/-- A fetched window's staging buffer holds the device's block. -/
theorem stg_in (c : Dev nD) (b : Ref sig .tc) (B : b.ty.Contents (Elt F) → b.ty.Contents (Elt F)) (X : b.ty.Contents (Elt F)) (h : ∀ d, B d = X) :
    iprop(∃ d, stg c b (B d)) ⊢ (((c : Thread nD τ).loc b) ↦{fullShare} X : sProp 𝕄) := by
  iintro ⟨%d, H⟩
  ihave H' := (stg_elim c b (B d)) $$ H
  rw [h d]; iexact H'
theorem stg_any (c : Dev nD) (b : Ref sig .tc) (B : b.ty.Contents (Elt F) → b.ty.Contents (Elt F)) :
    iprop(∃ d, stg c b (B d)) ⊢ iprop(∃ f, (((c : Thread nD τ).loc b) ↦{fullShare} f : sProp 𝕄)) := by
  iintro ⟨%d, H⟩
  ihave H' := (stg_elim c b (B d)) $$ H
  iexists (B d); iexact H'

theorem before_x (c : Dev nD) (d) : (dats m 0 c).before (0 : Fin 5) t0_0 d = (Im m).x c := by
  unfold Dat.before; rw [if_pos (fetch_in 0 (by decide))]; exact read_win0 (F := F) _
theorem before_a (c : Dev nD) (d) : (dats m 0 c).before (1 : Fin 5) t0_0 d = (Im m).a c := by
  unfold Dat.before; rw [if_pos (fetch_in 1 (by decide))]; exact read_win1 (F := F) _
theorem before_w1 (c : Dev nD) (d) : (dats m 0 c).before (2 : Fin 5) t0_0 d = (Im m).w1 c := by
  unfold Dat.before; rw [if_pos (fetch_in 2 (by decide))]; exact read_win2 (F := F) _
theorem before_w2 (c : Dev nD) (d) : (dats m 0 c).before (3 : Fin 5) t0_0 d = (Im m).w2 c := by
  unfold Dat.before; rw [if_pos (fetch_in 3 (by decide))]; exact read_win3 (F := F) _

def pre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def post (c : Dev nD) : sProp 𝕄 :=
  iprop(Φ₁ m c ∗ (dats m 0 c).owesAt () t0_0.succ ∗ stg c cc0_stg0_0 ((Im m).x c) ∗ stg c cc0_stg1_0 ((Im m).a c)
    ∗ stg c cc0_stg2_0 ((Im m).w1 c) ∗ stg c cc0_stg3_0 ((Im m).w2 c) ∗ stg c cc0_stg4_0 (outAt (Im m) c))

theorem owes_in (c : Dev nD) : (dats m 0 c).owesAt () t0_0.castSucc ⊢ OW c 0 := by
  unfold Dat.owesAt Pipeline.owesWithin OW
  iintro ⟨%W, %hW, H⟩
  iexists W; iexact H
theorem owes_out (c : Dev nD) : OW c 28 ⊢ (dats m 0 c).owesAt () t0_0.succ := by
  unfold Dat.owesAt Pipeline.owesWithin OW
  iintro ⟨%W, H⟩
  iexists W; isplitr
  · ipureintro; exact fun _ _ => Or.inl trivial
  iexact H

/-- The body, from what the pipeline gives it to what the pipeline takes back. -/
theorem run_body (c : Dev nD) : pre m c ⊢ wpB (F := F) c (onBufs (cc0__moe_body (F := F))) (fun _ => post m c) := by
  unfold pre Φ₀ start
  iintro ⟨⟨⟨⟨%K, #HR⟩, Hr⟩, %fx, %fr, %fy, %fq, HS⟩, HO, Hx, Ha, H1, H2, Ho⟩
  ihave HO' := (owes_in m c) $$ HO
  ihave Hx' := (stg_in c cc0_stg0_0 _ _ (before_x m c)) $$ Hx
  ihave Ha' := (stg_in c cc0_stg1_0 _ _ (before_a m c)) $$ Ha
  ihave H1' := (stg_in c cc0_stg2_0 _ _ (before_w1 m c)) $$ H1
  ihave H2' := (stg_in c cc0_stg3_0 _ _ (before_w2 m c)) $$ H2
  ihave Ho' := (stg_any c cc0_stg4_0 _) $$ Ho
  icases Ho' with ⟨%g, Ho⟩
  iapply (body (Im m) K c g fx fr fy fq) $$ [Hr HS HO' Hx' Ha' H1' H2' Ho]
  · isplitr; · iexact HR
    isplitl [HO']; · iexact HO'
    isplitl [Hx' Ha' H1' H2']
    · isplitl [Hx']; · iexact Hx'
      isplitl [Ha']; · iexact Ha'
      isplitl [H1']; · iexact H1'
      iexact H2'
    isplitl [Ho]; · iexact Ho
    isplitl [HS]; · iexact HS
    iexact Hr
  iintro ⟨HO, ⟨Hx, Ha, H1, H2⟩, Ho, HS, HZ⟩
  unfold post Φ₁
  isplitl [HS HZ]
  · isplitl [HS]; · iexact HS
    iexact HZ
  isplitl [HO]; · (iapply (owes_out m c); iexact HO)
  isplitl [Hx]; · (iapply (stg_intro c cc0_stg0_0 _); iexact Hx)
  isplitl [Ha]; · (iapply (stg_intro c cc0_stg1_0 _); iexact Ha)
  isplitl [H1]; · (iapply (stg_intro c cc0_stg2_0 _); iexact H1)
  isplitl [H2]; · (iapply (stg_intro c cc0_stg3_0 _); iexact H2)
  iapply (stg_intro c cc0_stg4_0 _); iexact Ho

set_option maxRecDepth 8000 in
theorem body_obligation (c : Dev nD) : BodyObligation (dats (F := F) m 0 c) (defs₀ (F := F)) 𝒱₀ () Set.univ := fun t => by
  rw [fin_N0 t]
  rw [bigSep_W, bigSep_W]
  simp only [owns_whole]
  exact run_body m c

/-! ## The launch's side conditions -/

theorem ownSemFacts : Pipeline.OwnSemFacts cfg0.spec osem := by decide +kernel
theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => due d 0) c ∗ prngReg c (ρ c) ∗ G' (Im m) c)
      ⊢ |={Set.univ}=> iprop(start m c ∗ emp) := by
  unfold G' start recs₀
  iintro ⟨-, Hlev, Hcr, -, ⟨%K, ⟨HI, HR⟩, Hown⟩⟩
  imodintro
  isplitl
  · isplitl [HI HR Hlev]
    · iexists K; unfold recs
      isplitl [HI]; · iexact HI
      isplitl [HR]; · iexact HR
      iexact Hlev
    iapply (rights_intro (F := F) c)
    isplitl [Hown]; · iexact Hown
    iexact Hcr
  · iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%fx, Hx⟩, ⟨%fr, Hr⟩, ⟨%fy, Hy⟩, ⟨%fq, Hq⟩⟩
  isplitl [Hs]; · iexact Hs
  iexists fx, fr, fy, fq
  isplitl [Hx]; · iexact Hx
  isplitl [Hr]; · iexact Hr
  isplitl [Hy]; · iexact Hy
  iexact Hq

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq]
  unfold Φ₁
  iintro ⟨⟨Hx, Hr, Hy, Hq⟩, HZ⟩
  ihave H := (rest_elim (F := F) c) $$ HZ
  icases H with ⟨HU, HO⟩
  isplitl [HU]; · iexact HU
  isplitl [HO]; · iexact HO
  isplitl [Hx]; · (iexists _; iexact Hx)
  isplitl [Hr]; · (iexists _; iexact Hr)
  isplitl [Hy]; · (iexists _; iexact Hy)
  iexists _; iexact Hq

theorem waits (c : Dev nD) : (levAts L lv : sProp 𝕄) ⊢ Pipeline.cellsWaits cfgs (dats m) () 0 c :=
  Pipeline.cellsWaits_intro cfgs (dats m) () 0 c fun w s t => by
    have hl : lvS (.dma ((cfg0.win w).sem s)) = 0 := by fin_cases w <;> fin_cases s <;> decide
    rcases t with ⟨_ | _, ht⟩
    · exact mayWait c _ 0 (by rw [hl]; decide)
    · exact mayWait c _ 28 (by simp [dueLv])

/-! ## The run -/

def finalA (c : Dev nD) (w : Fin cfg0.W) : Buf (Elt F) ((cfg0.win w).arr.view.loc (c : Thread nD τ)) := (dats m 0 c).arrAt w cfg0.N

set_option maxRecDepth 8000 in
/-- From any memory with every counter at zero, every fair run of the eight devices ends; the arrays then hold the
    computed contents, and every counter reads zero again. -/
theorem run_all : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => due d 0) (howed₀ := fun _ => rfl) (howedN := fun _ => rfl)
    (L := L) (lv := lv) (hL := L_of_ne) (hwaits := waits m)
    (G := G (Im m)) (G' := G' (Im m)) (u₀ := u₀)
    (hu₀ := by
      unfold u₀
      iintro Hu
      ihave H := (ownU_pair _ _) $$ Hu
      icases H with ⟨HP, HX⟩
      imod (fund_all (Im m)) $$ HX with HG
      imodintro
      isplitl [HP] <;> iassumption)
    (hglob := glob (Im m))
    (hA := fun _ _ => rfl) (hpf := fun _ k => k.elim0)
    (X := start m) (Y := fun c => unscopedSems0 c) (Z := fun _ => iprop(emp))
    (hX := start_intro m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_out (c : Dev nD) : finalA m c (4 : Fin 5) = outAt (Im m) c := by
  rw [← read_win4 (F := F) (finalA m c (4 : Fin 5))]
  unfold finalA
  rw [show cfg0.N = (t0_0 : Fin cfg0.N).val + 1 from rfl, (dats m 0 c).arrAt_succ (4 : Fin 5) t0_0]
  rw [show (cfg0.win (4 : Fin 5)).flush t0_0 = true from by decide, if_pos rfl]
  exact View.read_write_univ _ _

/-- The same run, read at the kernel's own arrays: the result holds `outAt` of the argument blocks, which are unchanged. -/
theorem run_main : θ_run defs (onTc (τ := τ) (main (F := F))) ⟨m, fun _ => 0, ρ⟩
    (fun r => (∀ c : Dev nD, r.2.mem ((c.tc : Thread nD τ).loc main_v1) = outAt (Im m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨(h.1 c (4 : Fin 5)).trans (final_out m c),
      (h.1 c (0 : Fin 5)).trans ((dats m 0 c).arrAt_in (0 : Fin 5) rfl _), (h.1 c (1 : Fin 5)).trans ((dats m 0 c).arrAt_in (1 : Fin 5) rfl _),
      (h.1 c (2 : Fin 5)).trans ((dats m 0 c).arrAt_in (2 : Fin 5) rfl _), (h.1 c (3 : Fin 5)).trans ((dats m 0 c).arrAt_in (3 : Fin 5) rfl _)⟩, h.2⟩)
    (run_all m ρ)

end Cert.KernelIdeal.Moe

end
-- ==== Proof.Frames.lean ====
/-
The frames: each program ends from every memory, leaves its arguments alone and every counter at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.SL.Sem

set_option maxRecDepth 8000 in
/-- The bit-exact kernel's body table is the other's at bit patterns. -/
theorem same_body : @Cert.Kernel.defs₀ Bits _ _ = @Cert.KernelIdeal.defs₀ Bits _ _ := by
  unfold Kernel.defs₀ KernelIdeal.defs₀
  refine congrArg Defs.onTc (funext fun l => funext fun a => ?_)
  obtain ⟨_ | _, h⟩ := l
  · obtain ⟨t, s⟩ := a
    exact rfl
  · exact absurd h (by omega)

theorem same_defs : @Cert.Kernel.defs Bits _ _ = @Cert.KernelIdeal.defs Bits _ _ := congrArg (Pipeline.defs KernelIdeal.pcfgs) same_body

/-- The bit-exact kernel is the same program at another float type. -/
theorem frame_kernel : Cert.quiescent_Kernel := fun m ρ _ => by
  rw [same_defs]
  exact (θ_run Cert.KernelIdeal.defs _ _).mono (fun _ h => ⟨fun c => (h.1 c).2, h.2⟩) (Cert.KernelIdeal.Moe.run_main (F := Bits) m ρ)

theorem frame_ideal : Cert.quiescent_KernelIdeal := fun m ρ _ =>
  (θ_run Cert.KernelIdeal.defs _ _).mono (fun _ h => ⟨fun c => (h.1 c).2, h.2⟩) (Cert.KernelIdeal.Moe.run_main (F := Ideal) m ρ)

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Facts.lean ====
/-
The side conditions the precondition's operations state.
-/
module

public import proofs.«01_k».proof.Pre_experts_fit_KernelIdeal
public import proofs.«01_k».proof.Pre_experts_fit_ReferenceIdeal
public import Idealize.ShloMosaic.Lib.Decide

@[expose] public section

namespace Cert.Proof

open Idealize.ShloMosaic

theorem fitK : Cert.Pre_experts_fit_KernelIdeal.Facts where
  bcast_S_S512 := by decide
  bcast_S512_S1x512_1 := by decide
  bcast_S1x512_S16x512_0_1 := by decide
  natLt_1_32 := by decide
  reducesTo_S16x512_S16_d1 := by decide
  h_S_ := by decide
  bcast_S_S16 := by decide

theorem fitR : Cert.Pre_experts_fit_ReferenceIdeal.Facts where
  bcast_S_S4096 := by decide
  bcast_S4096_S1x4096_1 := by decide
  bcast_S1x4096_S16x4096_0_1 := by decide
  natLt_1_32 := by decide
  reducesTo_S16x4096_S16_d1 := by decide
  h_S_ := by decide
  bcast_S_S16 := by decide

end Cert.Proof
-- ==== Proof.Pre.lean ====
/-
What the precondition says of one device's expert ids.
-/
module

public import proofs.«01_k».proof.Proof.Facts
public import Idealize.ShloMosaic.Lib.Pointwise

@[expose] public section

noncomputable section

namespace Cert.Proof

open Idealize.ShloMosaic Cert.Pre_experts_fit_KernelIdeal Cert.Pre_experts_fit_KernelIdeal.Facts

variable [Cert.Pre_experts_fit_KernelIdeal.Facts]

/-- Every expert id is one of the sixteen. -/
theorem known_of (x : FVec Ideal S512x512 .f32) (a : IVec S512 32) (w1 : FVec Ideal S2x512x1024 .f32) (w2 : FVec Ideal S2x1024x512 .f32)
    (h : (fn (F := Ideal) x a w1 w2).1 = fun _ => 1#1) (t : Fin 512) : (a (ix1 t)).toNat < 16 := by
  have := congrFun h (ix1 t)
  pointwise [fn] at this
  generalize a (ix1 t) = b at this
  have hboth : ∀ p q : Bool, BitVec.ofBool p &&& BitVec.ofBool q = 1#1 → p = true ∧ q = true := by decide
  have h2 : (BitVec.sle 0#32 b) = true ∧ (BitVec.slt b 16#32) = true := hboth _ _ this
  have h3 := BitVec.sle_iff_toInt_le.mp h2.1
  have h4 := BitVec.slt_iff_toInt_lt.mp h2.2
  have e0 : (0#32).toInt = 0 := by decide
  have e1 : (16#32).toInt = 16 := by decide
  have e2 := BitVec.toInt_eq_toNat_cond b
  have e3 := b.isLt
  split_ifs at e2 <;> omega

/-- Adding up words that are one where a condition holds, and zero elsewhere, counts. -/
theorem fold_count {ι : Type} (s : Finset ι) (p : ι → Bool) :
    Finset.fold IntOp.addi (0#32) (fun i => BitVec.setWidth 32 (BitVec.ofBool (p i))) s = BitVec.ofNat 32 (s.filter fun i => p i = true).card := by
  classical
  induction s using Finset.induction_on with
  | empty => rfl
  | insert i s hi ih =>
    rw [Finset.fold_insert hi, ih, Finset.filter_insert]
    by_cases hp : p i = true
    · rw [if_pos hp, Finset.card_insert_of_notMem (fun h => hi (Finset.mem_filter.mp h).1), hp, Nat.add_comm, BitVec.ofNat_add]
      rfl
    · rw [if_neg hp, Bool.eq_false_iff.mpr hp]
      exact BitVec.zero_add _

/-- No expert has more tokens than a bucket has places. -/
theorem cap_of (x : FVec Ideal S512x512 .f32) (a : IVec S512 32) (w1 : FVec Ideal S2x512x1024 .f32) (w2 : FVec Ideal S2x1024x512 .f32)
    (h : (fn (F := Ideal) x a w1 w2).2 = fun _ => 1#1) (e : Fin 16) : (Finset.univ.filter fun t : Fin 512 => a (ix1 t) = BitVec.ofNat 32 e.val).card ≤ 48 := by
  have := congrFun h (ix1 e)
  pointwise [fn] at this
  have hc := fold_count (Finset.univ : Finset (Fin 512)) (fun t => a (ix1 t) == BitVec.ofNat 32 e.val)
  have hset : (Finset.univ.filter fun t : Fin 512 => (a (ix1 t) == BitVec.ofNat 32 e.val) = true) = Finset.univ.filter fun t : Fin 512 => a (ix1 t) = BitVec.ofNat 32 e.val :=
    Finset.filter_congr fun t _ => beq_iff_eq
  rw [hset] at hc
  have hle : (Finset.univ.filter fun t : Fin 512 => a (ix1 t) = BitVec.ofNat 32 e.val).card ≤ 512 := (Finset.card_le_univ _).trans_eq (Fintype.card_fin 512)
  generalize (Finset.univ.filter fun t : Fin 512 => a (ix1 t) = BitVec.ofNat 32 e.val).card = k at hc hle
  have h2 : IntOp.cmpi .sle (BitVec.ofNat 32 k) 48#32 = 1#1 := by rw [← hc]; exact this
  have hone : ∀ p : Bool, BitVec.ofBool p = 1#1 → p = true := by decide
  have h3 := BitVec.sle_iff_toInt_le.mp (hone _ h2)
  have e1 : (48#32).toInt = 48 := by decide
  have e2 := BitVec.toInt_eq_toNat_cond (BitVec.ofNat 32 k)
  rw [BitVec.toNat_ofNat, Nat.mod_eq_of_lt (by omega)] at e2
  split_ifs at e2 <;> omega

end Cert.Proof

end
-- ==== Proof.Ffn.lean ====
/-
What the experts' part of the kernel computes: every row of a device's results is an expert applied to a received row.
-/
module

public import proofs.«01_k».proof.Proof.Contents
public import Idealize.ShloMosaic.Lib.Pointwise

@[expose] public section

noncomputable section

namespace Cert.KernelIdeal.Moe

open Cert.KernelIdeal Cert.KernelIdeal.Gen
open Idealize.ShloMosaic
open Idealize.ShloMosaic.TcCoe

/-- One expert's output for one token: `w2` after the rectified `w1`. -/
def ffn (x : Fin 512 → EReal) (w1 : Fin 512 → Fin 1024 → EReal) (w2 : Fin 1024 → Fin 512 → EReal) (h : Fin 512) : EReal :=
  ∑ f : Fin 1024, max (∑ k : Fin 512, x k * w1 k f) 0 * w2 f h

/-! ## Reading through the rectangles -/

/-- A read of a `4`-axis buffer through a rectangle, at a coordinate. -/
theorem rd4 {α : Type} {off n : Fin 4 → ℕ} {inb : ∀ a, off a + n a ≤ S8x2x48x512.size a} (f : S8x2x48x512.Idx → α)
    (j : (Rect.unit (s := S8x2x48x512) off n inb).shape.Idx) (o : Fin 8) (e : Fin 2) (r : Fin 48) (h : Fin 512)
    (h0 : off 0 + (j 0).val = o.val) (h1 : off 1 + (j 1).val = e.val) (h2 : off 2 + (j 2).val = r.val) (h3 : off 3 + (j 3).val = h.val) :
    (Rect.unit (s := S8x2x48x512) off n inb).emb j = ix4 o e r h := by
  funext a
  match a with
  | ⟨0, _⟩ => exact Fin.ext (by simpa using h0)
  | ⟨1, _⟩ => exact Fin.ext (by simpa using h1)
  | ⟨2, _⟩ => exact Fin.ext (by simpa using h2)
  | ⟨3, _⟩ => exact Fin.ext (by simpa using h3)

/-! ## One piece -/

section
variable (a : Vec Ideal S1x512x1024 .f32) (b : Vec Ideal S1x1024x512 .f32) (e : Fin 1) (r : Fin 48) (h : Fin 512)

theorem piece00 (v : Vec Ideal S1x2x48x512 .bf16) (o : Fin 1) :
    k0_pay7 v a b (ix4 o e r h) = ffn (fun k => v (ix4 o 0 r k)) (fun k f => a (ix3 0 k f)) (fun f h => b (ix3 0 f h)) h := by
  obtain rfl : o = 0 := Subsingleton.elim _ _
  pointwise [k0_pay7, ffn]

theorem piece01 (v : Vec Ideal S1x2x48x512 .bf16) (o : Fin 1) :
    k0_pay9 (k0_pay8 v a) b (ix4 o e r h) = ffn (fun k => v (ix4 o 1 r k)) (fun k f => a (ix3 0 k f)) (fun f h => b (ix3 0 f h)) h := by
  obtain rfl : o = 0 := Subsingleton.elim _ _
  pointwise [k0_pay8, k0_pay9, ffn]

theorem piece10 (v : Vec Ideal S2x2x48x512 .bf16) (o : Fin 2) :
    k0_pay11 v a b (ix4 o e r h) = ffn (fun k => v (ix4 o 0 r k)) (fun k f => a (ix3 0 k f)) (fun f h => b (ix3 0 f h)) h := by
  pointwise [k0_pay11, ffn]

theorem piece11 (v : Vec Ideal S2x2x48x512 .bf16) (o : Fin 2) :
    k0_pay13 (k0_pay12 v a) b (ix4 o e r h) = ffn (fun k => v (ix4 o 1 r k)) (fun k f => a (ix3 0 k f)) (fun f h => b (ix3 0 f h)) h := by
  pointwise [k0_pay12, k0_pay13, ffn]

theorem piece30 (v : Vec Ideal S2x2x48x512 .bf16) (o : Fin 2) :
    k0_pay14 v a b (ix4 o e r h) = ffn (fun k => v (ix4 o 0 r k)) (fun k f => a (ix3 0 k f)) (fun f h => b (ix3 0 f h)) h := by
  pointwise [k0_pay14, ffn]

theorem piece31 (v : Vec Ideal S2x2x48x512 .bf16) (o : Fin 2) :
    k0_pay16 (k0_pay15 v) a b (ix4 o e r h) = ffn (fun k => v (ix4 o 1 r k)) (fun k f => a (ix3 0 k f)) (fun f h => b (ix3 0 f h)) h := by
  pointwise [k0_pay15, k0_pay16, ffn]

theorem piece50 (v : Vec Ideal S3x2x48x512 .bf16) (o : Fin 3) :
    k0_pay18 (k0_pay17 v) a b (ix4 o e r h) = ffn (fun k => v (ix4 o 0 r k)) (fun k f => a (ix3 0 k f)) (fun f h => b (ix3 0 f h)) h := by
  pointwise [k0_pay17, k0_pay18, ffn]

theorem piece51 (v : Vec Ideal S3x2x48x512 .bf16) (o : Fin 3) :
    k0_pay19 v a b (ix4 o e r h) = ffn (fun k => v (ix4 o 1 r k)) (fun k f => a (ix3 0 k f)) (fun f h => b (ix3 0 f h)) h := by
  pointwise [k0_pay19, ffn]

end

section
variable (I : Ins Ideal) (d : Dev nD)

theorem w1a_at (k : Fin 512) (f : Fin 1024) : W1a I d (ix3 0 k f) = I.w1 d (ix3 0 k f) := by
  refine congrArg (I.w1 d) (funext fun x => ?_)
  match x with
  | ⟨0, _⟩ => exact Fin.ext (by simp)
  | ⟨1, _⟩ => exact Fin.ext (by simp)
  | ⟨2, _⟩ => exact Fin.ext (by simp)
theorem w1b_at (k : Fin 512) (f : Fin 1024) : W1b I d (ix3 0 k f) = I.w1 d (ix3 1 k f) := by
  refine congrArg (I.w1 d) (funext fun x => ?_)
  match x with
  | ⟨0, _⟩ => exact Fin.ext (by simp)
  | ⟨1, _⟩ => exact Fin.ext (by simp)
  | ⟨2, _⟩ => exact Fin.ext (by simp)
theorem w2a_at (f : Fin 1024) (h : Fin 512) : W2a I d (ix3 0 f h) = I.w2 d (ix3 0 f h) := by
  refine congrArg (I.w2 d) (funext fun x => ?_)
  match x with
  | ⟨0, _⟩ => exact Fin.ext (by simp)
  | ⟨1, _⟩ => exact Fin.ext (by simp)
  | ⟨2, _⟩ => exact Fin.ext (by simp)
theorem w2b_at (f : Fin 1024) (h : Fin 512) : W2b I d (ix3 0 f h) = I.w2 d (ix3 1 f h) := by
  refine congrArg (I.w2 d) (funext fun x => ?_)
  match x with
  | ⟨0, _⟩ => exact Fin.ext (by simp)
  | ⟨1, _⟩ => exact Fin.ext (by simp)
  | ⟨2, _⟩ => exact Fin.ext (by simp)

/-- The expert's output for the row received in place `(o, e, r)`. -/
def served (o : Fin 8) (e : Fin 2) (r : Fin 48) (h : Fin 512) : EReal :=
  ffn (fun k => Xr I d (ix4 o e r k)) (fun k f => I.w1 d (ix3 e k f)) (fun f h => I.w2 d (ix3 e f h)) h

/-- A piece's value at a place is the expert's output there, once its rows and weights are read where they belong. -/
theorem served_of (o : Fin 8) (e : Fin 2) (r : Fin 48) (h : Fin 512) {x : Fin 512 → EReal} {w1 : Fin 512 → Fin 1024 → EReal}
    {w2 : Fin 1024 → Fin 512 → EReal} (hx : ∀ k, x k = Xr I d (ix4 o e r k)) (h1 : ∀ k f, w1 k f = I.w1 d (ix3 e k f))
    (h2 : ∀ f h, w2 f h = I.w2 d (ix3 e f h)) : ffn x w1 w2 h = served I d o e r h := by
  unfold served
  rw [funext hx, show w1 = _ from funext fun k => funext fun f => h1 k f, show w2 = _ from funext fun f => funext fun h => h2 f h]

/-- A store of one piece, read inside the piece. -/
theorem yw_piece {lo e' n : ℕ} {inb : ∀ a, (![lo, e', 0, 0] : Fin 4 → ℕ) a + (![n, 1, 48, 512] : Fin 4 → ℕ) a ≤ S8x2x48x512.size a}
    (p : (Rect.unit (s := S8x2x48x512) ![lo, e', 0, 0] ![n, 1, 48, 512] inb).shape.Idx → Elt Ideal .bf16) (f : Vec Ideal S8x2x48x512 .bf16)
    (o : Fin 8) (e : Fin 2) (r : Fin 48) (h : Fin 512) (j : (Rect.unit (s := S8x2x48x512) ![lo, e', 0, 0] ![n, 1, 48, 512] inb).shape.Idx)
    (h0 : lo + (j 0).val = o.val) (h1 : e' + (j 1).val = e.val) (h2 : (j 2).val = r.val) (h3 : (j 3).val = h.val) :
    yw (Rect.unit (s := S8x2x48x512) ![lo, e', 0, 0] ![n, 1, 48, 512] inb) p f (ix4 o e r h) = p j := by
  rw [← rd4 (inb := inb) id j o e r h h0 h1 ((Nat.zero_add _).trans h2) ((Nat.zero_add _).trans h3), yw_emb]

/-- A band of received rows, read at a place inside the band. -/
theorem rd_band {α : Type} {lo n : ℕ} {inb : ∀ a, (![lo, 0, 0, 0] : Fin 4 → ℕ) a + (![n, 2, 48, 512] : Fin 4 → ℕ) a ≤ S8x2x48x512.size a}
    (f : S8x2x48x512.Idx → α) (o : Fin 8) (e : Fin 2) (r : Fin 48) (k : Fin 512) (j : (Rect.unit (s := S8x2x48x512) ![lo, 0, 0, 0] ![n, 2, 48, 512] inb).shape.Idx)
    (h0 : lo + (j 0).val = o.val) (h1 : (j 1).val = e.val) (h2 : (j 2).val = r.val) (h3 : (j 3).val = k.val) :
    rd (Rect.unit (s := S8x2x48x512) ![lo, 0, 0, 0] ![n, 2, 48, 512] inb) f j = f (ix4 o e r k) := by
  show f _ = _
  rw [rd4 (inb := inb) f j o e r k h0 ((Nat.zero_add _).trans h1) ((Nat.zero_add _).trans h2) ((Nat.zero_add _).trans h3)]

/-- Every row of a device's results is its expert's output for the row received in the same place. -/
theorem Ys_at (o : Fin 8) (e : Fin 2) (r : Fin 48) (h : Fin 512) : Ys I d (ix4 o e r h) = served I d o e r h := by
  have ho := o.isLt
  have off {lo e' n : ℕ} {inb : ∀ a, (![lo, e', 0, 0] : Fin 4 → ℕ) a + (![n, 1, 48, 512] : Fin 4 → ℕ) a ≤ S8x2x48x512.size a}
      (hh : ¬ ((lo ≤ o.val ∧ o.val < lo + n) ∧ e.val = e')) : (ix4 o e r h : S8x2x48x512.Idx) ∉ (Rect.unit (s := S8x2x48x512) ![lo, e', 0, 0] ![n, 1, 48, 512] inb).set := by
    rw [mem_piece]; exact hh
  unfold Ys
  obtain he | he : e.val = 0 ∨ e.val = 1 := by omega
  · obtain rfl : e = 0 := Fin.ext he
    rcases (by omega : o.val = 0 ∨ (1 ≤ o.val ∧ o.val < 3) ∨ (3 ≤ o.val ∧ o.val < 5) ∨ 5 ≤ o.val) with hc | hc | hc | hc
    · rw [yw_off r51 _ _ (off (by omega)), yw_off r50 _ _ (off (by omega)), yw_off r31 _ _ (off (by omega)), yw_off r30 _ _ (off (by omega)), yw_off r11 _ _ (off (by omega)), yw_off r10 _ _ (off (by omega)), yw_off r01 _ _ (off (by omega))]
      refine (yw_piece _ _ o 0 r h (ix4 ⟨o.val - 0, by omega⟩ 0 r h) (show 0 + (o.val - 0) = o.val by omega) rfl rfl rfl).trans ?_
      refine (piece00 (W1a I d) (W2a I d) 0 r h (rd rX (Xr I d)) _).trans (served_of I d o 0 r h (fun k => ?_) (w1a_at I d) (w2a_at I d))
      exact rd_band _ o 0 r k _ (show 0 + (o.val - 0) = o.val by omega) rfl rfl rfl
    · rw [yw_off r51 _ _ (off (by omega)), yw_off r50 _ _ (off (by omega)), yw_off r31 _ _ (off (by omega)), yw_off r30 _ _ (off (by omega)), yw_off r11 _ _ (off (by omega))]
      refine (yw_piece _ _ o 0 r h (ix4 ⟨o.val - 1, by omega⟩ 0 r h) (show 1 + (o.val - 1) = o.val by omega) rfl rfl rfl).trans ?_
      refine (piece10 (W1a I d) (W2a I d) 0 r h (rd rX1 (Xr I d)) _).trans (served_of I d o 0 r h (fun k => ?_) (w1a_at I d) (w2a_at I d))
      exact rd_band _ o 0 r k _ (show 1 + (o.val - 1) = o.val by omega) rfl rfl rfl
    · rw [yw_off r51 _ _ (off (by omega)), yw_off r50 _ _ (off (by omega)), yw_off r31 _ _ (off (by omega))]
      refine (yw_piece _ _ o 0 r h (ix4 ⟨o.val - 3, by omega⟩ 0 r h) (show 3 + (o.val - 3) = o.val by omega) rfl rfl rfl).trans ?_
      refine (piece30 (W1a I d) (W2a I d) 0 r h (rd rX3 (Xr I d)) _).trans (served_of I d o 0 r h (fun k => ?_) (w1a_at I d) (w2a_at I d))
      exact rd_band _ o 0 r k _ (show 3 + (o.val - 3) = o.val by omega) rfl rfl rfl
    · rw [yw_off r51 _ _ (off (by omega))]
      refine (yw_piece _ _ o 0 r h (ix4 ⟨o.val - 5, by omega⟩ 0 r h) (show 5 + (o.val - 5) = o.val by omega) rfl rfl rfl).trans ?_
      refine (piece50 (W1a I d) (W2a I d) 0 r h (rd rX5 (Xr I d)) _).trans (served_of I d o 0 r h (fun k => ?_) (w1a_at I d) (w2a_at I d))
      exact rd_band _ o 0 r k _ (show 5 + (o.val - 5) = o.val by omega) rfl rfl rfl
  · obtain rfl : e = 1 := Fin.ext he
    rcases (by omega : o.val = 0 ∨ (1 ≤ o.val ∧ o.val < 3) ∨ (3 ≤ o.val ∧ o.val < 5) ∨ 5 ≤ o.val) with hc | hc | hc | hc
    · rw [yw_off r51 _ _ (off (by omega)), yw_off r50 _ _ (off (by omega)), yw_off r31 _ _ (off (by omega)), yw_off r30 _ _ (off (by omega)), yw_off r11 _ _ (off (by omega)), yw_off r10 _ _ (off (by omega))]
      refine (yw_piece _ _ o 1 r h (ix4 ⟨o.val - 0, by omega⟩ 0 r h) (show 0 + (o.val - 0) = o.val by omega) rfl rfl rfl).trans ?_
      refine (piece01 (W1b I d) (W2b I d) 0 r h (rd rX (Xr I d)) _).trans (served_of I d o 1 r h (fun k => ?_) (w1b_at I d) (w2b_at I d))
      exact rd_band _ o 1 r k _ (show 0 + (o.val - 0) = o.val by omega) rfl rfl rfl
    · rw [yw_off r51 _ _ (off (by omega)), yw_off r50 _ _ (off (by omega)), yw_off r31 _ _ (off (by omega)), yw_off r30 _ _ (off (by omega))]
      refine (yw_piece _ _ o 1 r h (ix4 ⟨o.val - 1, by omega⟩ 0 r h) (show 1 + (o.val - 1) = o.val by omega) rfl rfl rfl).trans ?_
      refine (piece11 (W1b I d) (W2b I d) 0 r h (rd rX1 (Xr I d)) _).trans (served_of I d o 1 r h (fun k => ?_) (w1b_at I d) (w2b_at I d))
      exact rd_band _ o 1 r k _ (show 1 + (o.val - 1) = o.val by omega) rfl rfl rfl
    · rw [yw_off r51 _ _ (off (by omega)), yw_off r50 _ _ (off (by omega))]
      refine (yw_piece _ _ o 1 r h (ix4 ⟨o.val - 3, by omega⟩ 0 r h) (show 3 + (o.val - 3) = o.val by omega) rfl rfl rfl).trans ?_
      refine (piece31 (W1b I d) (W2b I d) 0 r h (rd rX3 (Xr I d)) _).trans (served_of I d o 1 r h (fun k => ?_) (w1b_at I d) (w2b_at I d))
      exact rd_band _ o 1 r k _ (show 3 + (o.val - 3) = o.val by omega) rfl rfl rfl
    · refine (yw_piece _ _ o 1 r h (ix4 ⟨o.val - 5, by omega⟩ 0 r h) (show 5 + (o.val - 5) = o.val by omega) rfl rfl rfl).trans ?_
      refine (piece51 (W1b I d) (W2b I d) 0 r h (rd rX5 (Xr I d)) _).trans (served_of I d o 1 r h (fun k => ?_) (w1b_at I d) (w2b_at I d))
      exact rd_band _ o 1 r k _ (show 5 + (o.val - 5) = o.val by omega) rfl rfl rfl
end

end Cert.KernelIdeal.Moe

end
-- ==== Proof.Dispatch.lean ====
/-
What the dispatch matrix holds, once every expert id is one of the sixteen: each token has one place, its bucket's
first free one, and the matrix has a one there and zeros elsewhere.
-/
module

public import proofs.«01_k».proof.Proof.Contents
public import Idealize.ShloMosaic.Lib.Pointwise

@[expose] public section

noncomputable section

namespace Cert.KernelIdeal.Moe

open Cert.KernelIdeal Cert.KernelIdeal.Gen
open Idealize.ShloMosaic
open Idealize.ShloMosaic.TcCoe

/-! ## Comparisons and conversions at small numbers -/

/-- A truth value, as a float, is one or zero. -/
theorem hot_bool (b : Bool) : (FloatOps.sitofp (F := Ideal) FTy.f32 (BitVec.setWidth 32 (BitVec.ofBool b)) : EReal) = ((if b then 1 else 0 : ℕ) : EReal) := by
  show ((((BitVec.setWidth 32 (BitVec.ofBool b)).toInt : ℤ) : ℝ) : EReal) = _
  have : ∀ b : Bool, (BitVec.setWidth 32 (BitVec.ofBool b)).toInt = ((if b then 1 else 0 : ℕ) : ℤ) := by decide
  rw [this b, Int.cast_natCast]; rfl

/-- A comparison for equality, as a float, is one or zero. -/
theorem hot_eq (x y : ℕ) (hx : x < 2 ^ 32) (hy : y < 2 ^ 32) :
    (FloatOps.sitofp (F := Ideal) FTy.f32 (BitVec.setWidth 32 (IntOp.cmpi .eq (BitVec.ofNat 32 x) (BitVec.ofNat 32 y))) : EReal)
      = ((if x = y then 1 else 0 : ℕ) : EReal) := by
  have : (BitVec.ofNat 32 x == BitVec.ofNat 32 y) = decide (x = y) := by
    rw [beq_eq_decide]
    congr 1
    refine propext ⟨fun e => ?_, fun e => e ▸ rfl⟩
    have := congrArg BitVec.toNat e
    rwa [BitVec.toNat_ofNat, BitVec.toNat_ofNat, Nat.mod_eq_of_lt hx, Nat.mod_eq_of_lt hy] at this
  show (FloatOps.sitofp (F := Ideal) FTy.f32 (BitVec.setWidth 32 (BitVec.ofBool (BitVec.ofNat 32 x == BitVec.ofNat 32 y))) : EReal) = _
  rw [this, hot_bool]
  simp only [decide_eq_true_eq]

/-- A signed comparison of small numbers, as a float, is one or zero. -/
theorem hot_le (x y : ℕ) (hx : x < 2 ^ 31) (hy : y < 2 ^ 31) :
    (FloatOps.sitofp (F := Ideal) FTy.f32 (BitVec.setWidth 32 (IntOp.cmpi .sle (BitVec.ofNat 32 x) (BitVec.ofNat 32 y))) : EReal)
      = ((if x ≤ y then 1 else 0 : ℕ) : EReal) := by
  have : (BitVec.ofNat 32 x).sle (BitVec.ofNat 32 y) = decide (x ≤ y) := by
    rw [BitVec.sle_eq_decide, BitVec.toInt_ofNat', BitVec.toInt_ofNat']
    congr 1
    rw [Int.bmod_def, Int.bmod_def]
    apply propext
    split_ifs <;> omega
  show (FloatOps.sitofp (F := Ideal) FTy.f32 (BitVec.setWidth 32 (BitVec.ofBool ((BitVec.ofNat 32 x).sle (BitVec.ofNat 32 y)))) : EReal) = _
  rw [this, hot_bool]
  simp only [decide_eq_true_eq]

/-- Converting a small count back to an integer is exact. -/
theorem count_back (k : ℕ) (hk : k < 2 ^ 31) : (FloatOps.fptosi (F := Ideal) (φ := .f32) 32 ((k : ℕ) : EReal) : BitVec 32) = BitVec.ofNat 32 k := by
  show Ideal.fptosi 32 (((k : ℝ)) : EReal) = _
  rw [Ideal.fptosi, Ideal.toIntClamped_coe, if_pos (Nat.cast_nonneg k), Int.floor_natCast]
  rw [min_eq_right (by omega), max_eq_right (by omega), BitVec.ofInt_natCast]

/-! ## Buckets, ranks and places -/

theorem pos_eq : ∀ c : Dev nD, pos c = BitVec.ofNat 32 c.val := by decide +kernel

/-- The bucket of device `c`'s tokens for expert `n`: how far on the mesh its device is, and which of the two it is there. -/
def bk (c : Dev nD) (n : Fin 16) : Fin 16 := ⟨((n.val / 2 + 8 - c.val) % 8) * 2 + n.val % 2, by omega⟩

theorem bk_inj (c : Dev nD) {n n' : Fin 16} (h : bk c n = bk c n') : n = n' := by
  revert c n n'; decide +kernel

/-- The kernel's arithmetic on an expert id is its bucket. -/
theorem bucket_word : ∀ (c : Dev nD) (n : Fin 16),
    IntOp.addi (IntOp.muli (IntOp.andi (IntOp.addi (IntOp.subi (IntOp.shrsi ArithUnit.vector (BitVec.ofNat 32 n.val) 1#32) (pos c)) 8#32) 7#32) 2#32)
      (IntOp.andi (BitVec.ofNat 32 n.val) 1#32) = BitVec.ofNat 32 (bk c n).val := by decide +kernel

variable (N : Fin 512 → Fin 16)

/-- How many earlier tokens go to the same expert. -/
def rank (t : Fin 512) : ℕ := (Finset.univ.filter fun u : Fin 512 => u < t ∧ N u = N t).card

/-- The place of token `t` among the `768`. -/
def place (c : Dev nD) (t : Fin 512) : ℕ := (bk c (N t)).val * 48 + rank N t

theorem rank_lt (t : Fin 512) : rank N t < 512 := by
  refine lt_of_lt_of_eq (Finset.card_lt_card ?_) (Finset.card_fin 512)
  exact Finset.filter_ssubset.mpr ⟨t, Finset.mem_univ _, fun h => lt_irrefl _ h.1⟩

/-- The number of tokens up to `t` in `t`'s bucket, `t` itself counted. -/
theorem sum_upto (c : Dev nD) (t : Fin 512) :
    (∑ u : Fin 512, (if (bk c (N t)).val = (bk c (N u)).val then 1 else 0) * (if u.val ≤ t.val then 1 else 0)) = rank N t + 1 := by
  have h1 : ∀ u : Fin 512, (if (bk c (N t)).val = (bk c (N u)).val then 1 else 0) * (if u.val ≤ t.val then 1 else 0)
      = if (u < t ∧ N u = N t) ∨ u = t then 1 else 0 := by
    intro u
    by_cases hb : N u = N t
    · rw [hb, if_pos rfl, one_mul]
      refine if_congr ?_ rfl rfl
      rw [← Fin.le_def, le_iff_lt_or_eq]; simp
    · have hv : ¬ (bk c (N t)).val = (bk c (N u)).val := fun h => hb (bk_inj c (Fin.ext h)).symm
      rw [if_neg hv, zero_mul, if_neg]
      rintro (h | h)
      · exact hb h.2
      · exact hb (h ▸ rfl)
  rw [Finset.sum_congr rfl fun u _ => h1 u, Finset.sum_boole, Finset.filter_or, Finset.card_union_of_disjoint]
  · rw [Finset.filter_eq' Finset.univ t]; simp [rank]
  · rw [Finset.disjoint_filter]; rintro u - h rfl; exact lt_irrefl _ h.1

/-- The kernel's count by products with ones and zeros is the rank. -/
theorem rank_sum (c : Dev nD) (t : Fin 512) :
    (∑ x : Fin 16, ((∑ u : Fin 512, ((if x.val = (bk c (N u)).val then 1 else 0 : ℕ) : EReal) * ((if u.val ≤ t.val then 1 else 0 : ℕ) : EReal))
      - ((if x.val = (bk c (N t)).val then 1 else 0 : ℕ) : EReal)) * ((if x.val = (bk c (N t)).val then 1 else 0 : ℕ) : EReal)) = (rank N t : EReal) := by
  rw [Finset.sum_eq_single (bk c (N t))]
  · have h : (∑ u : Fin 512, ((if (bk c (N t)).val = (bk c (N u)).val then 1 else 0 : ℕ) : EReal) * ((if u.val ≤ t.val then 1 else 0 : ℕ) : EReal))
        = ((rank N t + 1 : ℕ) : EReal) := by
      rw [← sum_upto N c t]; push_cast; rfl
    rw [h, if_pos rfl, Nat.cast_one, mul_one]
    have : ((rank N t + 1 : ℕ) : EReal) = (((rank N t : ℝ) + 1 : ℝ) : EReal) := by push_cast; rfl
    rw [this, ← EReal.coe_one, ← EReal.coe_sub, add_sub_cancel_right]; rfl
  · intro x _ hx
    rw [if_neg (fun h => hx (Fin.ext h)), Nat.cast_zero, mul_zero]
  · intro h; exact absurd (Finset.mem_univ _) h

/-- The dispatch matrix has a one where the row is the token's place, and zeros elsewhere. -/
theorem pay2_apply (c : Dev nD) (v : IVec S1x512 32) (hv : ∀ t : Fin 512, v (ix2 0 t) = BitVec.ofNat 32 (N t).val) (s : Fin 768) (t : Fin 512) :
    (k0_pay2 (F := Ideal) (pos c) v 1#32 (ix2 s t) : EReal) = ((if s.val = place N c t then 1 else 0 : ℕ) : EReal) := by
  pointwise [k0_pay2]
  simp only [hv, bucket_word]
  have hb := (bk c (N t)).isLt
  have hr := rank_lt N t
  have hbk (u : Fin 512) : (bk c (N u)).val < 2 ^ 32 := lt_trans (bk c (N u)).isLt (by decide)
  have e1 : ∀ x : Fin 16, ∀ u : Fin 512, (FloatOps.sitofp (F := Ideal) FTy.f32 (BitVec.setWidth 32 (IntOp.cmpi .eq (BitVec.ofNat 32 x.val) (BitVec.ofNat 32 (bk c (N u)).val))) : EReal)
      = ((if x.val = (bk c (N u)).val then 1 else 0 : ℕ) : EReal) := fun x u => hot_eq _ _ (lt_trans x.isLt (by decide)) (hbk u)
  have e2 : ∀ u : Fin 512, (FloatOps.sitofp (F := Ideal) FTy.f32 (BitVec.setWidth 32 (IntOp.cmpi .sle (BitVec.ofNat 32 u.val) (BitVec.ofNat 32 t.val))) : EReal)
      = ((if u.val ≤ t.val then 1 else 0 : ℕ) : EReal) := fun u => hot_le _ _ (lt_trans u.isLt (by decide)) (lt_trans t.isLt (by decide))
  simp only [e1, e2]
  rw [rank_sum, count_back _ (lt_trans hr (by decide))]
  rw [show IntOp.addi (IntOp.muli (BitVec.ofNat 32 (bk c (N t)).val) 48#32) (BitVec.ofNat 32 (rank N t)) = BitVec.ofNat 32 (place N c t) by
    simp [IntOp.addi, IntOp.muli, place, BitVec.ofNat_add, BitVec.ofNat_mul]]
  exact hot_eq _ _ (lt_trans s.isLt (by decide)) (by unfold place; omega)

end Cert.KernelIdeal.Moe

end
-- ==== Proof.Value.lean ====
/-
What the kernel computes: token `t` of device `c` comes back as its expert's output.
-/
module

public import proofs.«01_k».proof.Proof.Ffn
public import proofs.«01_k».proof.Proof.Dispatch

@[expose] public section

noncomputable section

namespace Cert.KernelIdeal.Moe

open Cert.KernelIdeal Cert.KernelIdeal.Gen
open Idealize.ShloMosaic
open Idealize.ShloMosaic.TcCoe

/-! ## Places -/

section
variable (N : Fin 512 → Fin 16)

theorem rank_lt_rank {t u : Fin 512} (h : t < u) (e : N t = N u) : rank N t < rank N u := by
  refine Finset.card_lt_card ⟨?_, ?_⟩
  · intro v hv
    rw [Finset.mem_filter] at hv ⊢
    exact ⟨hv.1, hv.2.1.trans h, hv.2.2.trans e⟩
  · intro hs
    have : t ∈ Finset.univ.filter fun v : Fin 512 => v < t ∧ N v = N t := hs (Finset.mem_filter.mpr ⟨Finset.mem_univ _, h, e⟩)
    exact lt_irrefl _ (Finset.mem_filter.mp this).2.1

/-- With no more tokens of an expert than a bucket has places, every rank is a place of the bucket. -/
theorem rank_lt_cap (hcap : ∀ n : Fin 16, (Finset.univ.filter fun u : Fin 512 => N u = n).card ≤ 48) (t : Fin 512) : rank N t < 48 := by
  refine lt_of_lt_of_le (Finset.card_lt_card ⟨?_, ?_⟩) (hcap (N t))
  · intro v hv
    rw [Finset.mem_filter] at hv ⊢
    exact ⟨hv.1, hv.2.2⟩
  · intro hs
    have : t ∈ Finset.univ.filter fun v : Fin 512 => v < t ∧ N v = N t := hs (Finset.mem_filter.mpr ⟨Finset.mem_univ _, rfl⟩)
    exact lt_irrefl _ (Finset.mem_filter.mp this).2.1

theorem place_inj (c : Dev nD) (hr : ∀ t, rank N t < 48) {t u : Fin 512} (h : place N c t = place N c u) : t = u := by
  have h1 := hr t
  have h2 := hr u
  unfold place at h
  have e : N t = N u := bk_inj c (Fin.ext (by omega))
  have e' : rank N t = rank N u := by omega
  rcases lt_trichotomy t u with hl | rfl | hl
  · have := rank_lt_rank N hl e; omega
  · rfl
  · have := rank_lt_rank N hl e.symm; omega
end

/-! ## Sums against ones and zeros -/

/-- A stretch of a sum against a row of the dispatch matrix picks the one place it has, if that is in the stretch. -/
theorem pick_stretch (n off s : ℕ) (G : ℕ → EReal) (g : Fin n → EReal) (hg : ∀ x : Fin n, g x = G (off + x.val)) :
    (∑ x : Fin n, ((if off + x.val = s then 1 else 0 : ℕ) : EReal) * g x) = if off ≤ s ∧ s < off + n then G s else 0 := by
  by_cases h : off ≤ s ∧ s < off + n
  · rw [if_pos h, Finset.sum_eq_single ⟨s - off, by omega⟩]
    · rw [if_pos (show off + (s - off) = s by omega), Nat.cast_one, one_mul, hg]
      exact congrArg G (show off + (s - off) = s by omega)
    · intro x _ hx
      rw [if_neg (fun e => hx (Fin.ext (show x.val = s - off by omega))), Nat.cast_zero, zero_mul]
    · intro hn; exact absurd (Finset.mem_univ _) hn
  · rw [if_neg h]
    refine Finset.sum_eq_zero fun x _ => ?_
    have := x.isLt
    rw [if_neg (by omega), Nat.cast_zero, zero_mul]

/-! ## The rows sent out -/

section
variable (I : Ins Ideal) (c : Dev nD) (N : Fin 512 → Fin 16)
  (hN : ∀ t : Fin 512, (I.a c (ix1 t) : BitVec 32) = BitVec.ofNat 32 (N t).val)
include hN

theorem aRow_at (t : Fin 512) : aRow I c (ix2 0 t) = BitVec.ofNat 32 (N t).val := by
  rw [← hN t]
  pointwise [aRow, k0_pay1]
  refine congrArg (I.a c) (funext fun x => ?_)
  match x with
  | ⟨0, _⟩ => exact Fin.ext (by simp)

theorem P_at (s : Fin 768) (t : Fin 512) : (P I c (ix2 s t) : EReal) = ((if s.val = place N c t then 1 else 0 : ℕ) : EReal) :=
  pay2_apply N c _ (aRow_at I c N hN) s t

omit hN in
theorem xBlk_at (t k : Fin 512) : xBlk I c (ix2 t k) = I.x c (ix2 t k) := by
  refine congrArg (I.x c) (funext fun x => ?_)
  match x with
  | ⟨0, _⟩ => exact Fin.ext (by simp)
  | ⟨1, _⟩ => exact Fin.ext (by simp)

/-- The row sent out in a token's place is the token's. -/
theorem Xs_at (hr : ∀ t, rank N t < 48) (t : Fin 512) (o : Fin 8) (e : Fin 2) (r : Fin 48) (k : Fin 512)
    (hs : o.val * 96 + e.val * 48 + r.val = place N c t) : (Xs I c (ix4 o e r k) : EReal) = I.x c (ix2 t k) := by
  unfold Xs
  pointwise [k0_pay4, k0_pay3]
  rw [Finset.sum_eq_single t]
  · refine (congrArg₂ (· * ·) (P_at I c N hN _ t) (xBlk_at I c t k)).trans ?_
    rw [if_pos hs, Nat.cast_one, one_mul]
  · intro u _ hu
    refine (congrArg₂ (· * ·) (P_at I c N hN _ u) (xBlk_at I c u k)).trans ?_
    rw [if_neg, Nat.cast_zero, zero_mul]
    intro h
    exact hu (place_inj N c hr (h.symm.trans hs))
  · intro h; exact absurd (Finset.mem_univ _) h

/-! ## The block written back -/

omit hN in
/-- A buffer's rows numbered from `0` to `767`. -/
def flat (Y : Vec Ideal S8x2x48x512 .bf16) (h : Fin 512) (s : ℕ) : EReal :=
  if hs : s < 768 then Y (ix4 ⟨s / 96, by omega⟩ ⟨s / 48 % 2, by omega⟩ ⟨s % 48, by omega⟩ h) else 0

omit hN in
theorem flat_of (Y : Vec Ideal S8x2x48x512 .bf16) (h : Fin 512) (s : ℕ) (o : Fin 8) (e : Fin 2) (r : Fin 48) (hs : o.val * 96 + e.val * 48 + r.val = s) :
    flat Y h s = Y (ix4 o e r h) := by
  have := o.isLt; have := e.isLt; have := r.isLt
  unfold flat
  rw [dif_pos (by omega)]
  congr 2 <;> apply Fin.ext <;> simp only <;> omega

/-- A stretch of the closing product picks the row in the token's place, if that is in the stretch. -/
theorem stretch_at (t h : Fin 512) {n off : ℕ} (row : Fin n → Fin 768) (hrow : ∀ x, (row x).val = off + x.val) (g : Fin n → EReal)
    (hg : ∀ x : Fin n, g x = flat (Yr I c) h (off + x.val)) :
    (∑ x : Fin n, (P I c (ix2 (row x) t) : EReal) * g x)
      = if off ≤ place N c t ∧ place N c t < off + n then flat (Yr I c) h (place N c t) else 0 := by
  rw [← pick_stretch n off (place N c t) (flat (Yr I c) h) g hg]
  refine Finset.sum_congr rfl fun x _ => ?_
  rw [P_at I c N hN, hrow]

omit hN in
/-- A band of received rows, read at a place that counts its rows from the band's first. -/
theorem band_flat (h : Fin 512) {lo n : ℕ} {inb : ∀ a, (![lo, 0, 0, 0] : Fin 4 → ℕ) a + (![n, 2, 48, 512] : Fin 4 → ℕ) a ≤ S8x2x48x512.size a} (s : ℕ) (hs : s < 768)
    (j : (Rect.unit (s := S8x2x48x512) ![lo, 0, 0, 0] ![n, 2, 48, 512] inb).shape.Idx)
    (h0 : lo + (j 0).val = s / 96) (h1 : (j 1).val = s / 48 % 2) (h2 : (j 2).val = s % 48) (h3 : (j 3).val = h.val) :
    (rd (Rect.unit (s := S8x2x48x512) ![lo, 0, 0, 0] ![n, 2, 48, 512] inb) (Yr I c) j : EReal) = flat (Yr I c) h s := by
  have e0 : s / 96 < 8 := by omega
  have e1 : s / 48 % 2 < 2 := by omega
  have e2 : s % 48 < 48 := by omega
  have es : (⟨s / 96, e0⟩ : Fin 8).val * 96 + (⟨s / 48 % 2, e1⟩ : Fin 2).val * 48 + (⟨s % 48, e2⟩ : Fin 48).val = s := by
    show s / 96 * 96 + s / 48 % 2 * 48 + s % 48 = s
    omega
  rw [flat_of (Yr I c) h s ⟨s / 96, e0⟩ ⟨s / 48 % 2, e1⟩ ⟨s % 48, e2⟩ es]
  exact rd_band (Yr I c) ⟨s / 96, e0⟩ ⟨s / 48 % 2, e1⟩ ⟨s % 48, e2⟩ h j h0 h1 h2 h3

/-- The block written back holds, for each token, the row received in the token's place. -/
theorem outAt_pick (hr : ∀ t, rank N t < 48) (t h : Fin 512) : (outAt I c (ix2 t h) : EReal) = flat (Yr I c) h (place N c t) := by
  have hb := (bk c (N t)).isLt
  have hrt := hr t
  have hp : place N c t < 768 := by unfold place; omega
  unfold outAt
  pointwise [k0_pay23, k0_pay22, k0_pay21, k0_pay20]
  have s0 := stretch_at I c N hN t h (n := 96) (off := 0) (fun x => ⟨x.val, by omega⟩) (fun x => by simp)
    (fun x => rd rX (Yr I c) (ix4 (0 : Fin 1) (⟨x.val / 48, by omega⟩ : Fin 2) (⟨x.val % 48, by omega⟩ : Fin 48) h))
    (fun x => band_flat I c h (0 + x.val) (by omega) _ (show 0 + 0 = (0 + x.val) / 96 by omega) (show x.val / 48 = (0 + x.val) / 48 % 2 by omega)
      (show x.val % 48 = (0 + x.val) % 48 by omega) rfl)
  have s1 := stretch_at I c N hN t h (n := 192) (off := 96) (fun x => ⟨96 + x.val, by omega⟩) (fun x => rfl)
    (fun x => rd rX1 (Yr I c) (ix4 (⟨x.val / 96, by omega⟩ : Fin 2) (⟨x.val / 48 % 2, by omega⟩ : Fin 2) (⟨x.val % 48, by omega⟩ : Fin 48) h))
    (fun x => band_flat I c h (96 + x.val) (by omega) _ (show 1 + x.val / 96 = (96 + x.val) / 96 by omega) (show x.val / 48 % 2 = (96 + x.val) / 48 % 2 by omega)
      (show x.val % 48 = (96 + x.val) % 48 by omega) rfl)
  have s2 := stretch_at I c N hN t h (n := 192) (off := 288) (fun x => ⟨288 + x.val, by omega⟩) (fun x => rfl)
    (fun x => rd rX3 (Yr I c) (ix4 (⟨x.val / 96, by omega⟩ : Fin 2) (⟨x.val / 48 % 2, by omega⟩ : Fin 2) (⟨x.val % 48, by omega⟩ : Fin 48) h))
    (fun x => band_flat I c h (288 + x.val) (by omega) _ (show 3 + x.val / 96 = (288 + x.val) / 96 by omega) (show x.val / 48 % 2 = (288 + x.val) / 48 % 2 by omega)
      (show x.val % 48 = (288 + x.val) % 48 by omega) rfl)
  have s3 := stretch_at I c N hN t h (n := 288) (off := 480) (fun x => ⟨480 + x.val, by omega⟩) (fun x => rfl)
    (fun x => rd rX5 (Yr I c) (ix4 (⟨x.val / 96, by omega⟩ : Fin 3) (⟨x.val / 48 % 2, by omega⟩ : Fin 2) (⟨x.val % 48, by omega⟩ : Fin 48) h))
    (fun x => band_flat I c h (480 + x.val) (by omega) _ (show 5 + x.val / 96 = (480 + x.val) / 96 by omega) (show x.val / 48 % 2 = (480 + x.val) / 48 % 2 by omega)
      (show x.val % 48 = (480 + x.val) % 48 by omega) rfl)
  refine (congrArg₂ (· + ·) (congrArg₂ (· + ·) (congrArg₂ (· + ·) s0 s1) s2) s3).trans ?_
  generalize flat (Yr I c) h (place N c t) = y
  rcases (by omega : place N c t < 96 ∨ (96 ≤ place N c t ∧ place N c t < 288) ∨ (288 ≤ place N c t ∧ place N c t < 480) ∨ 480 ≤ place N c t)
    with q | q | q | q
  · rw [if_pos (by omega), if_neg (by omega), if_neg (by omega), if_neg (by omega)]; simp
  · rw [if_neg (by omega), if_pos (by omega), if_neg (by omega), if_neg (by omega)]; simp
  · rw [if_neg (by omega), if_neg (by omega), if_pos (by omega), if_neg (by omega)]; simp
  · rw [if_neg (by omega), if_neg (by omega), if_neg (by omega), if_pos (by omega)]; simp

/-- What the kernel computes. -/
theorem outAt_eq (hr : ∀ t, rank N t < 48) (d : Dev nD) (e : Fin 2) (t h : Fin 512) (hd : d.val = (N t).val / 2) (he : e.val = (N t).val % 2) :
    (outAt I c (ix2 t h) : EReal) = ffn (fun k => I.x c (ix2 t k)) (fun k f => I.w1 d (ix3 e k f)) (fun f h => I.w2 d (ix3 e f h)) h := by
  have hc := c.isLt
  have hnt := (N t).isLt
  have hrt := hr t
  let o : Fin 8 := ⟨((N t).val / 2 + 8 - c.val) % 8, Nat.mod_lt _ (by decide)⟩
  have hs : o.val * 96 + e.val * 48 + (⟨rank N t, hrt⟩ : Fin 48).val = place N c t := by
    show ((N t).val / 2 + 8 - c.val) % 8 * 96 + e.val * 48 + rank N t = (((N t).val / 2 + 8 - c.val) % 8 * 2 + (N t).val % 2) * 48 + rank N t
    omega
  have hup : up o c = d := Fin.ext (by
    show (c.val + ((N t).val / 2 + 8 - c.val) % 8) % 8 = d.val
    have hc' : c.val < 8 := hc
    omega)
  rw [outAt_pick I c N hN hr t h, flat_of _ _ _ o e ⟨rank N t, hrt⟩ hs]
  show Ys I (up o c) _ = _
  rw [Ys_at]
  unfold served
  rw [hup]
  have hx : (fun k => Xr I d (ix4 o e ⟨rank N t, hrt⟩ k)) = fun k => I.x c (ix2 t k) := by
    funext k
    show Xs I (dn o d) _ = _
    rw [← hup, dn_up]
    exact Xs_at I c N hN hr t o e _ k hs
  rw [hx]
end

end Cert.KernelIdeal.Moe

end
-- ==== Proof.Ref.lean ====
/-
What the reference computes: each token's row is its expert's output.
-/
module

public import proofs.«01_k».proof.Proof.Ffn
public import proofs.«01_k».proof.Proof.Gen.ReferenceIdeal.Run
public import Idealize.ShloMosaic.Lib.Pointwise

@[expose] public section

noncomputable section

namespace Cert.ReferenceIdeal.Value

open Cert.ReferenceIdeal Cert.ReferenceIdeal.Gen
open Idealize.ShloMosaic
open Idealize.ShloMosaic.TcCoe
open Cert.KernelIdeal.Moe (ffn)

variable (V : Valuation τ sig (Elt Ideal))

abbrev xArg : FVec Ideal S4096x512 .f32 := V (Proc.devRef .tc main_arg0)
abbrev aArg : IVec S4096 32 := V (Proc.devRef .tc main_arg1)
abbrev w1Arg : FVec Ideal S16x512x1024 .f32 := V (Proc.devRef .tc main_arg2)
abbrev w2Arg : FVec Ideal S16x1024x512 .f32 := V (Proc.devRef .tc main_arg3)

/-- Expert `e`'s output for token `t`. -/
def byExpert (t : Fin 4096) (e : Fin 16) (h : Fin 512) : EReal :=
  ffn (fun k => xArg V (ix2 t k)) (fun k f => w1Arg V (ix3 e k f)) (fun f h => w2Arg V (ix3 e f h)) h

/-- One turn of the reference's loop at a token: expert `e`'s output if the token is the expert's, else what was there. -/
def turn (t : Fin 4096) (h : Fin 512) (e : Fin 16) (prev : EReal) : EReal :=
  Scalar.select (IntOp.cmpi CmpIPredicate.eq (aArg V (ix1 t)) (BitVec.ofNat 32 e.val)) (byExpert V t e h) prev

theorem turn_eq (t : Fin 4096) (h : Fin 512) {n : Fin 16} (hn : aArg V (ix1 t) = BitVec.ofNat 32 n.val) (e : Fin 16) (prev : EReal) :
    turn V t h e prev = if n = e then byExpert V t n h else prev := by
  unfold turn
  rw [hn]
  have hw : ∀ n e : Fin 16, IntOp.cmpi CmpIPredicate.eq (BitVec.ofNat 32 n.val) (BitVec.ofNat 32 e.val) = if n = e then 1#1 else 0#1 := by decide +kernel
  rw [hw]
  by_cases hne : n = e
  · subst hne; rw [if_pos rfl, if_pos rfl]; rfl
  · rw [if_neg hne, if_neg hne]; rfl

theorem v60_at (t : Fin 4096) (h : Fin 512) :
    (res_main_v60 V (ix2 t h) : EReal) = turn V t h 4 (turn V t h 3 (turn V t h 2 (turn V t h 1 (turn V t h 0 (0 : EReal))))) := by
  unfold turn byExpert ffn
  pointwise [res_main_v60]

theorem v120_at (t : Fin 4096) (h : Fin 512) :
    (res_main_v120 V (ix2 t h) : EReal) = turn V t h 9 (turn V t h 8 (turn V t h 7 (turn V t h 6 (turn V t h 5 (res_main_v60 V (ix2 t h)))))) := by
  unfold turn byExpert ffn
  pointwise [res_main_v120]

theorem v180_at (t : Fin 4096) (h : Fin 512) :
    (res_main_v180 V (ix2 t h) : EReal) = turn V t h 14 (turn V t h 13 (turn V t h 12 (turn V t h 11 (turn V t h 10 (res_main_v120 V (ix2 t h)))))) := by
  unfold turn byExpert ffn
  pointwise [res_main_v180]

/-- The reference's result, as its run states it. -/
def result : FVec Ideal S4096x512 .f32 :=
  select (broadcastInDim S4096x512 ![0, 1] bcast_S4096x1_S4096x512_0_1 (broadcastInDim S4096x1 ![0] bcast_S4096_S4096x1_0 (cmpi .eq (aArg V) (broadcastInDim S4096 ![] bcast_S_S4096 (constantI S_ 32 15#32))))) (Host.dotGeneral dot_S4096x1024_S1024x512_S4096x512_1_0_0_1_n_n none (maximumf (Host.dotGeneral dot_S4096x512_S512x1024_S4096x1024_1_0_0_1_n_n none (xArg V) (shapeCast _ (extractStridedSlice S1x512x1024 ![15, 0, 0] (w1Arg V) slices_S16x512x1024_S1x512x1024_15_0_0) shapeCasts_S1x512x1024_S512x1024)) (broadcastInDim S4096x1024 ![] bcast_S_S4096x1024 (constant S_ .f32 0x00000000#32))) (shapeCast _ (extractStridedSlice S1x1024x512 ![15, 0, 0] (w2Arg V) slices_S16x1024x512_S1x1024x512_15_0_0) shapeCasts_S1x1024x512_S1024x512)) (res_main_v180 V)

theorem result_turn (t : Fin 4096) (h : Fin 512) : (result V (ix2 t h) : EReal) = turn V t h 15 (res_main_v180 V (ix2 t h)) := by
  unfold turn byExpert ffn
  pointwise [result]

/-- A token of one of the sixteen experts gets that expert's output. -/
theorem result_at (t : Fin 4096) (h : Fin 512) (n : Fin 16) (hn : aArg V (ix1 t) = BitVec.ofNat 32 n.val) :
    (result V (ix2 t h) : EReal) = byExpert V t n h := by
  rw [result_turn, v180_at, v120_at, v60_at]
  simp only [turn_eq V t h hn]
  generalize byExpert V t n h = y
  revert n
  intro n _
  fin_cases n <;> simp

end Cert.ReferenceIdeal.Value

end
-- ==== Proof.Algebraic.lean ====
/-
The kernel and the reference compute the same function: each device's block of the result is that block of the
reference's.
-/
module

public import proofs.«01_k».proof.Defs
public import proofs.«01_k».proof.Proof.Frames
public import proofs.«01_k».proof.Proof.Pre
public import proofs.«01_k».proof.Proof.Value
public import proofs.«01_k».proof.Proof.Ref

@[expose] public section

noncomputable section

namespace Cert.Proof

open Idealize.ShloMosaic Idealize.ShloMosaic.TcCoe Idealize.SL.Sem
open Cert.KernelIdeal.Moe (Ins outAt outAt_eq ffn Im rank rank_lt_cap)
open Cert.ReferenceIdeal.Value (result result_at byExpert xArg aArg w1Arg w2Arg)

/-! ## Where a block's elements lie in the whole array -/

theorem block2 {α : Type} (c : Fin 8) (v : (⟨2, ![4096, 512]⟩ : Shape).Idx → α) (t : Fin 512) (k : Fin 512) (T : Fin 4096) (hT : T.val = c.val * 512 + t.val) :
    Layout.block ⟨2, ![512, 512]⟩ ⟨2, ![4096, 512]⟩ 0 8 c v (by decide) (ix2 t k) = v (ix2 T k) := by
  refine congrArg v (funext fun x => ?_)
  match x with
  | ⟨0, _⟩ => exact Fin.ext hT.symm
  | ⟨1, _⟩ => rfl

theorem block1 {α : Type} (c : Fin 8) (v : (⟨1, ![4096]⟩ : Shape).Idx → α) (t : Fin 512) (T : Fin 4096) (hT : T.val = c.val * 512 + t.val) :
    Layout.block ⟨1, ![512]⟩ ⟨1, ![4096]⟩ 0 8 c v (by decide) (ix1 t) = v (ix1 T) := by
  refine congrArg v (funext fun x => ?_)
  match x with
  | ⟨0, _⟩ => exact Fin.ext hT.symm

theorem block3 {α : Type} {p q : ℕ} (c : Fin 8) (v : (⟨3, ![16, p, q]⟩ : Shape).Idx → α) (h : Layout.Tiles ⟨3, ![2, p, q]⟩ ⟨3, ![16, p, q]⟩ 0 8)
    (e : Fin 2) (k : Fin p) (f : Fin q) (n : Fin 16) (hn : n.val = c.val * 2 + e.val) :
    Layout.block ⟨3, ![2, p, q]⟩ ⟨3, ![16, p, q]⟩ 0 8 c v h (ix3 e k f) = v (ix3 n k f) := by
  refine congrArg v (funext fun x => ?_)
  match x with
  | ⟨0, _⟩ => exact Fin.ext hn.symm
  | ⟨1, _⟩ => rfl
  | ⟨2, _⟩ => rfl

/-! ## The equation -/

/-- The kernel's block on device `c` is block `c` of the reference's result. -/
theorem block_eq (I : Ins Ideal) (V : Valuation Cert.ReferenceIdeal.τ Cert.ReferenceIdeal.sig (Elt Ideal)) (c : Fin 8)
    (hx : ∀ c : Fin 8, I.x c = Layout.block ⟨2, ![512, 512]⟩ ⟨2, ![4096, 512]⟩ 0 8 c (xArg V))
    (ha : ∀ c : Fin 8, I.a c = Layout.block ⟨1, ![512]⟩ ⟨1, ![4096]⟩ 0 8 c (aArg V))
    (h1 : ∀ c : Fin 8, I.w1 c = Layout.block ⟨3, ![2, 512, 1024]⟩ ⟨3, ![16, 512, 1024]⟩ 0 8 c (w1Arg V))
    (h2 : ∀ c : Fin 8, I.w2 c = Layout.block ⟨3, ![2, 1024, 512]⟩ ⟨3, ![16, 1024, 512]⟩ 0 8 c (w2Arg V))
    (known : ∀ t : Fin 512, (I.a c (ix1 t) : BitVec 32).toNat < 16)
    (cap : ∀ e : Fin 16, (Finset.univ.filter fun t : Fin 512 => (I.a c (ix1 t) : BitVec 32) = BitVec.ofNat 32 e.val).card ≤ 48) :
    outAt I c = Layout.block ⟨2, ![512, 512]⟩ ⟨2, ![4096, 512]⟩ 0 8 c (result V) := by
  let N : Fin 512 → Fin 16 := fun t => ⟨_, known t⟩
  have hN : ∀ t : Fin 512, (I.a c (ix1 t) : BitVec 32) = BitVec.ofNat 32 (N t).val := fun t => BitVec.eq_of_toNat_eq (by
    rw [BitVec.toNat_ofNat, Nat.mod_eq_of_lt (BitVec.isLt _)])
  have hcap : ∀ n : Fin 16, (Finset.univ.filter fun u : Fin 512 => N u = n).card ≤ 48 := by
    intro n
    refine le_trans (Finset.card_le_card fun u hu => ?_) (cap n)
    rw [Finset.mem_filter] at hu ⊢
    exact ⟨hu.1, by rw [hN u, hu.2]⟩
  funext i
  obtain ⟨t, h, rfl⟩ : ∃ (t h : Fin 512), i = ix2 t h := ⟨i 0, i 1, funext fun x => by
    match x with
    | ⟨0, _⟩ => rfl
    | ⟨1, _⟩ => rfl⟩
  have hnt := (N t).isLt
  have hc := c.isLt
  have ht := t.isLt
  let T : Fin 4096 := ⟨c.val * 512 + t.val, by omega⟩
  let d : Fin 8 := ⟨(N t).val / 2, by omega⟩
  let e : Fin 2 := ⟨(N t).val % 2, by omega⟩
  have hn : (N t).val = d.val * 2 + e.val := by show (N t).val = (N t).val / 2 * 2 + (N t).val % 2; omega
  rw [block2 c (result V) t h T rfl]
  refine (outAt_eq I c N hN (rank_lt_cap N hcap) d e t h rfl rfl).trans ?_
  refine Eq.trans ?_ (result_at V T h (N t) ?_).symm
  · unfold byExpert
    rw [show (fun k => I.x c (ix2 t k)) = fun k => xArg V (ix2 T k) from funext fun k => by rw [hx c]; exact block2 c _ t k T rfl,
      show (fun k f => I.w1 d (ix3 e k f)) = fun k f => w1Arg V (ix3 (N t) k f) from funext fun k => funext fun f => by
        rw [h1 d]; exact block3 d _ _ e k f (N t) hn,
      show (fun f h => I.w2 d (ix3 e f h)) = fun f h => w2Arg V (ix3 (N t) f h) from funext fun f => funext fun h => by
        rw [h2 d]; exact block3 d _ _ e f h (N t) hn]
  · rw [← hN t, ha c]
    exact (block1 c _ t T rfl).symm

/-- Under the precondition, kernel and reference compute the same function over the extended reals. -/
theorem algebraic : Cert.algebraic_KernelIdeal_ReferenceIdeal_pre_experts_fit_KernelIdeal (hPre_experts_fit_KernelIdeal := fitK) := by
  intro m g m' g' hpre hargs
  refine ⟨result (StableHlo.launchContents m' 0), ?_, ?_⟩
  · refine (θ_run Cert.KernelIdeal.defs _ _).mono (fun _ h c => ⟨(h.1 c).1.trans ?_, (h.1 c).2⟩) (Cert.KernelIdeal.Moe.run_main (F := Ideal) m g)
    exact block_eq (Im m) (StableHlo.launchContents m' 0) c (fun c => (hargs c).1) (fun c => (hargs c).2.1) (fun c => (hargs c).2.2.1) (fun c => (hargs c).2.2.2)
      (fun t => @known_of fitK _ _ _ _ (hpre c).1 t) (fun e => @cap_of fitK _ _ _ _ (hpre c).2 e)
  · exact (θ_run Cert.ReferenceIdeal.defs _ _).mono (fun _ h => ⟨(h 0).1, (h 0).2⟩) (Cert.ReferenceIdeal.Value.run (F := Ideal) m' g')

end Cert.Proof

end
-- ==== Proof.lean ====
/-
The claims about the kernel and its reference, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Facts
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, fitK, fitR,
    frame_kernel, frame_ideal, fun m ρ _ => frame_ideal m ρ trivial, frame_ref, fun m ρ _ => frame_ref m ρ trivial, trivial, algebraic⟩

end Cert.Proof

end
